-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nodes_and_selection [hPre_nodes_and_selection : Cert.Pre_nodes_and_selection.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_and_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_nodes_and_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_nodes_and_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_nodes_and_selection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_and_selection [hPre_nodes_and_selection : Cert.Pre_nodes_and_selection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_and_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_nodes_and_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_nodes_and_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_nodes_and_selection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_adjacency_and_selection [hPre_adjacency_and_selection : Cert.Pre_adjacency_and_selection.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_adjacency_and_selection.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_adjacency_and_selection.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2.1 = (fun _ => 1#1)
    ∧ (Cert.Pre_adjacency_and_selection.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2.2.1 = (fun _ => 1#1)
    ∧ (Cert.Pre_adjacency_and_selection.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_adjacency_and_selection [hPre_adjacency_and_selection : Cert.Pre_adjacency_and_selection.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_adjacency_and_selection.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_adjacency_and_selection.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2.1 = (fun _ => 1#1)
    ∧ (Cert.Pre_adjacency_and_selection.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2.2.1 = (fun _ => 1#1)
    ∧ (Cert.Pre_adjacency_and_selection.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_layers_and_selection [hPre_layers_and_selection : Cert.Pre_layers_and_selection.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_layers_and_selection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_layers_and_selection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_layers_and_selection.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_layers_and_selection [hPre_layers_and_selection : Cert.Pre_layers_and_selection.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_layers_and_selection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_layers_and_selection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_layers_and_selection.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nodes_and_selection [hKernelIdeal : Cert.KernelIdeal.Facts] [hPre_nodes_and_selection : Cert.Pre_nodes_and_selection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nodes_and_selection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nodes_and_selection [hReferenceIdeal : Cert.ReferenceIdeal.Facts] [hPre_nodes_and_selection : Cert.Pre_nodes_and_selection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_and_selection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_adjacency_and_selection [hKernel2Ideal : Cert.Kernel2Ideal.Facts] [hPre_adjacency_and_selection : Cert.Pre_adjacency_and_selection.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_adjacency_and_selection m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_adjacency_and_selection [hReference2Ideal : Cert.Reference2Ideal.Facts] [hPre_adjacency_and_selection : Cert.Pre_adjacency_and_selection.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_adjacency_and_selection m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_layers_and_selection [hKernel3Ideal : Cert.Kernel3Ideal.Facts] [hPre_layers_and_selection : Cert.Pre_layers_and_selection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_layers_and_selection m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_layers_and_selection [hReference3Ideal : Cert.Reference3Ideal.Facts] [hPre_layers_and_selection : Cert.Pre_layers_and_selection.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_layers_and_selection m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_nodes_and_selection [hKernelIdeal : Cert.KernelIdeal.Facts] [hReferenceIdeal : Cert.ReferenceIdeal.Facts] [hPre_nodes_and_selection : Cert.Pre_nodes_and_selection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nodes_and_selection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v146_0)) (v1 : (c : Dev Cert.KernelIdeal.nD) → Buf (Elt Ideal) ((c.tc : Thread Cert.KernelIdeal.nD Cert.KernelIdeal.τ).loc Cert.KernelIdeal.main_v146_1)) (v2 : (c : Dev Cert.KernelIdeal.nD) → Buf (Elt Ideal) ((c.tc : Thread Cert.KernelIdeal.nD Cert.KernelIdeal.τ).loc Cert.KernelIdeal.main_v146_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146_0) = v0 c
          ∧ r.2.mem ((c.tc : Thread Cert.KernelIdeal.nD Cert.KernelIdeal.τ).loc Cert.KernelIdeal.main_v146_1) = v1 c
          ∧ r.2.mem ((c.tc : Thread Cert.KernelIdeal.nD Cert.KernelIdeal.τ).loc Cert.KernelIdeal.main_v146_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_adjacency_and_selection [hKernel2Ideal : Cert.Kernel2Ideal.Facts] [hReference2Ideal : Cert.Reference2Ideal.Facts] [hPre_adjacency_and_selection : Cert.Pre_adjacency_and_selection.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_adjacency_and_selection m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v58_0)) (v1 : (c : Dev Cert.Kernel2Ideal.nD) → Buf (Elt Ideal) ((c.tc : Thread Cert.Kernel2Ideal.nD Cert.Kernel2Ideal.τ).loc Cert.Kernel2Ideal.main_v58_1)) (v2 : (c : Dev Cert.Kernel2Ideal.nD) → Buf (Elt Ideal) ((c.tc : Thread Cert.Kernel2Ideal.nD Cert.Kernel2Ideal.τ).loc Cert.Kernel2Ideal.main_v58_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v58_0) = v0 c
          ∧ r.2.mem ((c.tc : Thread Cert.Kernel2Ideal.nD Cert.Kernel2Ideal.τ).loc Cert.Kernel2Ideal.main_v58_1) = v1 c
          ∧ r.2.mem ((c.tc : Thread Cert.Kernel2Ideal.nD Cert.Kernel2Ideal.τ).loc Cert.Kernel2Ideal.main_v58_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_layers_and_selection [hKernel3Ideal : Cert.Kernel3Ideal.Facts] [hReference3Ideal : Cert.Reference3Ideal.Facts] [hPre_layers_and_selection : Cert.Pre_layers_and_selection.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_layers_and_selection m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v92)) (v1 : (c : Dev Cert.Kernel3Ideal.nD) → Buf (Elt Ideal) ((c.tc : Thread Cert.Kernel3Ideal.nD Cert.Kernel3Ideal.τ).loc Cert.Kernel3Ideal.main_arg3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v92) = v0 c
          ∧ r.2.mem ((c.tc : Thread Cert.Kernel3Ideal.nD Cert.Kernel3Ideal.τ).loc Cert.Kernel3Ideal.main_arg3) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_arg3) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_nodes_and_selection : Cert.Pre_nodes_and_selection.Facts) (hPre_adjacency_and_selection : Cert.Pre_adjacency_and_selection.Facts) (hPre_layers_and_selection : Cert.Pre_layers_and_selection.Facts),
    quiescent_Kernel (hKernel := hKernel)
    ∧ quiescent_KernelIdeal (hKernelIdeal := hKernelIdeal)
    ∧ quiescent_KernelIdeal_pre_nodes_and_selection (hKernelIdeal := hKernelIdeal) (hPre_nodes_and_selection := hPre_nodes_and_selection)
    ∧ quiescent_ReferenceIdeal (hReferenceIdeal := hReferenceIdeal)
    ∧ quiescent_ReferenceIdeal_pre_nodes_and_selection (hReferenceIdeal := hReferenceIdeal) (hPre_nodes_and_selection := hPre_nodes_and_selection)
    ∧ quiescent_Kernel2 (hKernel2 := hKernel2)
    ∧ quiescent_Kernel2Ideal (hKernel2Ideal := hKernel2Ideal)
    ∧ quiescent_Kernel2Ideal_pre_adjacency_and_selection (hKernel2Ideal := hKernel2Ideal) (hPre_adjacency_and_selection := hPre_adjacency_and_selection)
    ∧ quiescent_Reference2Ideal (hReference2Ideal := hReference2Ideal)
    ∧ quiescent_Reference2Ideal_pre_adjacency_and_selection (hReference2Ideal := hReference2Ideal) (hPre_adjacency_and_selection := hPre_adjacency_and_selection)
    ∧ quiescent_Kernel3 (hKernel3 := hKernel3)
    ∧ quiescent_Kernel3Ideal (hKernel3Ideal := hKernel3Ideal)
    ∧ quiescent_Kernel3Ideal_pre_layers_and_selection (hKernel3Ideal := hKernel3Ideal) (hPre_layers_and_selection := hPre_layers_and_selection)
    ∧ quiescent_Reference3Ideal (hReference3Ideal := hReference3Ideal)
    ∧ quiescent_Reference3Ideal_pre_layers_and_selection (hReference3Ideal := hReference3Ideal) (hPre_layers_and_selection := hPre_layers_and_selection)
    ∧ preserves_Kernel_KernelIdeal
    ∧ algebraic_KernelIdeal_ReferenceIdeal_pre_nodes_and_selection (hKernelIdeal := hKernelIdeal) (hReferenceIdeal := hReferenceIdeal) (hPre_nodes_and_selection := hPre_nodes_and_selection)
    ∧ preserves_Kernel2_Kernel2Ideal
    ∧ algebraic_Kernel2Ideal_Reference2Ideal_pre_adjacency_and_selection (hKernel2Ideal := hKernel2Ideal) (hReference2Ideal := hReference2Ideal) (hPre_adjacency_and_selection := hPre_adjacency_and_selection)
    ∧ preserves_Kernel3_Kernel3Ideal
    ∧ algebraic_Kernel3Ideal_Reference3Ideal_pre_layers_and_selection (hKernel3Ideal := hKernel3Ideal) (hReference3Ideal := hReference3Ideal) (hPre_layers_and_selection := hPre_layers_and_selection)
-- ==== Pre_adjacency_and_selection.lean ====
abbrev S5000x5000 : Shape := ⟨2, ![5000, 5000]⟩
abbrev S2560 : Shape := ⟨1, ![2560]⟩
abbrev S2500 : Shape := ⟨1, ![2500]⟩
abbrev S60 : Shape := ⟨1, ![60]⟩
abbrev S2500x2500 : Shape := ⟨2, ![2500, 2500]⟩
abbrev S_ : Shape := ⟨0, ![]⟩
abbrev S2500x1 : Shape := ⟨2, ![2500, 1]⟩
abbrev S1x2500 : Shape := ⟨2, ![1, 2500]⟩

class Facts : Prop where
  slices_S2560_S2500_0 : S2560.Slices ![0] S2500
  slices_S2560_S60_2500 : S2560.Slices ![2500] S60
  bcast_S_S5000x5000 : S_.BroadcastsInDim S5000x5000 (![] : Fin 0 → Fin S5000x5000.rank)
  bcast_S_S2500 : S_.BroadcastsInDim S2500 (![] : Fin 0 → Fin S2500.rank)
  bcast_S2500_S2500x1_0 : S2500.BroadcastsInDim S2500x1 (![0] : Fin 1 → Fin S2500x1.rank)
  bcast_S2500_S1x2500_1 : S2500.BroadcastsInDim S1x2500 (![1] : Fin 1 → Fin S1x2500.rank)
  bcast_S2500x1_S2500x2500_0_1 : S2500x1.BroadcastsInDim S2500x2500 (![0, 1] : Fin 2 → Fin S2500x2500.rank)
  bcast_S1x2500_S2500x2500_0_1 : S1x2500.BroadcastsInDim S2500x2500 (![0, 1] : Fin 2 → Fin S2500x2500.rank)
  bcast_S_S60 : S_.BroadcastsInDim S60 (![] : Fin 0 → Fin S60.rank)

variable [Facts]

def fn_part1 {F : FTy → Type} [FloatOps F] (main_v1 : IVec S60 32) (main_v9 : IVec S5000x5000 1) (main_v14 : IVec S2500 1) (main_v19 : IVec S2500x2500 1) (main_v20 : IVec S2500x2500 1) : IVec S5000x5000 1 × IVec S2500 1 × IVec S2500x2500 1 × IVec S60 1 :=
  let main_v21 : IVec S2500x2500 1 := ori main_v19 main_v20
  let main_c_1 : IVec S_ 32 := constantI S_ 32 5000#32
  let main_v22 : IVec S60 32 := broadcastInDim S60 ![] bcast_S_S60 main_c_1
  let main_v23 : IVec S60 1 := cmpi .sge main_v1 main_v22
  (main_v9, main_v14, main_v21, main_v23)

def fn {F : FTy → Type} [FloatOps F] (main_arg0 : FVec F S5000x5000 .f32) (main_arg1 : IVec S2560 32) : IVec S5000x5000 1 × IVec S2500 1 × IVec S2500x2500 1 × IVec S60 1 :=
  let main_v0 : IVec S2500 32 := (extractStridedSlice S2500 ![0] · slices_S2560_S2500_0) main_arg1
  let main_v1 : IVec S60 32 := (extractStridedSlice S60 ![2500] · slices_S2560_S60_2500) main_arg1
  let main_v2 : IVec S5000x5000 32 := iotaInDim S5000x5000 32 0
  let main_v3 : IVec S5000x5000 32 := iotaInDim S5000x5000 32 1
  let main_v4 : IVec S2500x2500 32 := iotaInDim S2500x2500 32 0
  let main_v5 : IVec S2500x2500 32 := iotaInDim S2500x2500 32 1
  let main_cst : FVec F S_ .f32 := constant S_ .f32 0x00000000#32
  let main_v6 : FVec F S5000x5000 .f32 := broadcastInDim S5000x5000 ![] bcast_S_S5000x5000 main_cst
  let main_v7 : IVec S5000x5000 1 := cmpf .oeq main_arg0 main_v6
  let main_v8 : IVec S5000x5000 1 := cmpi .ne main_v2 main_v3
  let main_v9 : IVec S5000x5000 1 := ori main_v7 main_v8
  let main_c : IVec S_ 32 := constantI S_ 32 0#32
  let main_v10 : IVec S2500 32 := broadcastInDim S2500 ![] bcast_S_S2500 main_c
  let main_v11 : IVec S2500 1 := cmpi .sge main_v0 main_v10
  let main_c_0 : IVec S_ 32 := constantI S_ 32 5000#32
  let main_v12 : IVec S2500 32 := broadcastInDim S2500 ![] bcast_S_S2500 main_c_0
  let main_v13 : IVec S2500 1 := cmpi .slt main_v0 main_v12
  let main_v14 : IVec S2500 1 := andi main_v11 main_v13
  let main_v15 : IVec S2500x1 32 := broadcastInDim S2500x1 ![0] bcast_S2500_S2500x1_0 main_v0
  let main_v16 : IVec S1x2500 32 := broadcastInDim S1x2500 ![1] bcast_S2500_S1x2500_1 main_v0
  let main_v17 : IVec S2500x2500 32 := broadcastInDim S2500x2500 ![0, 1] bcast_S2500x1_S2500x2500_0_1 main_v15
  let main_v18 : IVec S2500x2500 32 := broadcastInDim S2500x2500 ![0, 1] bcast_S1x2500_S2500x2500_0_1 main_v16
  let main_v19 : IVec S2500x2500 1 := cmpi .ne main_v17 main_v18
  let main_v20 : IVec S2500x2500 1 := cmpi .eq main_v4 main_v5
  fn_part1 (F := F) main_v1 main_v9 main_v14 main_v19 main_v20
-- ==== Pre_layers_and_selection.lean ====
abbrev S10000x128 : Shape := ⟨2, ![10000, 128]⟩
abbrev S5120x128 : Shape := ⟨2, ![5120, 128]⟩
abbrev S5120 : Shape := ⟨1, ![5120]⟩
abbrev S2x160000 : Shape := ⟨2, ![2, 160000]⟩
abbrev S128x128 : Shape := ⟨2, ![128, 128]⟩
abbrev S128 : Shape := ⟨1, ![128]⟩
abbrev S256x128 : Shape := ⟨2, ![256, 128]⟩
abbrev S_ : Shape := ⟨0, ![]⟩
abbrev S5000 : Shape := ⟨1, ![5000]⟩
abbrev S120 : Shape := ⟨1, ![120]⟩

class Facts : Prop where
  bcast_S_S2x160000 : S_.BroadcastsInDim S2x160000 (![] : Fin 0 → Fin S2x160000.rank)
  slices_S5120_S5000_0 : S5120.Slices ![0] S5000
  bcast_S_S5000 : S_.BroadcastsInDim S5000 (![] : Fin 0 → Fin S5000.rank)
  slices_S5120_S120_5000 : S5120.Slices ![5000] S120
  bcast_S_S120 : S_.BroadcastsInDim S120 (![] : Fin 0 → Fin S120.rank)

variable [Facts]

def fn {F : FTy → Type} [FloatOps F] (main_arg0 : FVec F S10000x128 .f32) (main_arg1 : FVec F S5120x128 .f32) (main_arg2 : IVec S5120 32) (main_arg3 : IVec S2x160000 32) (main_arg4 : FVec F S128x128 .f32) (main_arg5 : FVec F S128 .f32) (main_arg6 : FVec F S256x128 .f32) (main_arg7 : FVec F S128 .f32) : IVec S2x160000 1 × IVec S5000 1 × IVec S120 1 :=
  let main_c : IVec S_ 32 := constantI S_ 32 0#32
  let main_v0 : IVec S2x160000 32 := broadcastInDim S2x160000 ![] bcast_S_S2x160000 main_c
  let main_v1 : IVec S2x160000 1 := cmpi .sge main_arg3 main_v0
  let main_c_0 : IVec S_ 32 := constantI S_ 32 10000#32
  let main_v2 : IVec S2x160000 32 := broadcastInDim S2x160000 ![] bcast_S_S2x160000 main_c_0
  let main_v3 : IVec S2x160000 1 := cmpi .slt main_arg3 main_v2
  let main_v4 : IVec S2x160000 1 := andi main_v1 main_v3
  let main_v5 : IVec S5000 32 := (extractStridedSlice S5000 ![0] · slices_S5120_S5000_0) main_arg2
  let main_c_1 : IVec S_ 32 := constantI S_ 32 0#32
  let main_v6 : IVec S5000 32 := broadcastInDim S5000 ![] bcast_S_S5000 main_c_1
  let main_v7 : IVec S5000 1 := cmpi .sge main_v5 main_v6
  let main_v8 : IVec S120 32 := (extractStridedSlice S120 ![5000] · slices_S5120_S120_5000) main_arg2
  let main_c_2 : IVec S_ 32 := constantI S_ 32 10000#32
  let main_v9 : IVec S120 32 := broadcastInDim S120 ![] bcast_S_S120 main_c_2
  let main_v10 : IVec S120 1 := cmpi .sge main_v8 main_v9
  (main_v4, main_v7, main_v10)
-- ==== Pre_nodes_and_selection.lean ====
abbrev S2x160000 : Shape := ⟨2, ![2, 160000]⟩
abbrev S5120 : Shape := ⟨1, ![5120]⟩
abbrev S5000 : Shape := ⟨1, ![5000]⟩
abbrev S120 : Shape := ⟨1, ![120]⟩
abbrev S5000x5000 : Shape := ⟨2, ![5000, 5000]⟩
abbrev S_ : Shape := ⟨0, ![]⟩
abbrev S5000x1 : Shape := ⟨2, ![5000, 1]⟩
abbrev S1x5000 : Shape := ⟨2, ![1, 5000]⟩

class Facts : Prop where
  slices_S5120_S5000_0 : S5120.Slices ![0] S5000
  slices_S5120_S120_5000 : S5120.Slices ![5000] S120
  bcast_S_S2x160000 : S_.BroadcastsInDim S2x160000 (![] : Fin 0 → Fin S2x160000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000_S1x5000_1 : S5000.BroadcastsInDim S1x5000 (![1] : Fin 1 → Fin S1x5000.rank)
  bcast_S5000x1_S5000x5000_0_1 : S5000x1.BroadcastsInDim S5000x5000 (![0, 1] : Fin 2 → Fin S5000x5000.rank)
  bcast_S1x5000_S5000x5000_0_1 : S1x5000.BroadcastsInDim S5000x5000 (![0, 1] : Fin 2 → Fin S5000x5000.rank)
  bcast_S_S120 : S_.BroadcastsInDim S120 (![] : Fin 0 → Fin S120.rank)

variable [Facts]

def fn_part1 {F : FTy → Type} [FloatOps F] (main_v1 : IVec S120 32) (main_v8 : IVec S2x160000 1) (main_v13 : IVec S5000 1) (main_v18 : IVec S5000x5000 1) (main_v19 : IVec S5000x5000 1) : IVec S2x160000 1 × IVec S5000 1 × IVec S5000x5000 1 × IVec S120 1 :=
  let main_v20 : IVec S5000x5000 1 := ori main_v18 main_v19
  let main_c_3 : IVec S_ 32 := constantI S_ 32 10000#32
  let main_v21 : IVec S120 32 := broadcastInDim S120 ![] bcast_S_S120 main_c_3
  let main_v22 : IVec S120 1 := cmpi .sge main_v1 main_v21
  (main_v8, main_v13, main_v20, main_v22)

def fn {F : FTy → Type} [FloatOps F] (main_arg0 : IVec S2x160000 32) (main_arg1 : IVec S5120 32) : IVec S2x160000 1 × IVec S5000 1 × IVec S5000x5000 1 × IVec S120 1 :=
  let main_v0 : IVec S5000 32 := (extractStridedSlice S5000 ![0] · slices_S5120_S5000_0) main_arg1
  let main_v1 : IVec S120 32 := (extractStridedSlice S120 ![5000] · slices_S5120_S120_5000) main_arg1
  let main_v2 : IVec S5000x5000 32 := iotaInDim S5000x5000 32 0
  let main_v3 : IVec S5000x5000 32 := iotaInDim S5000x5000 32 1
  let main_c : IVec S_ 32 := constantI S_ 32 0#32
  let main_v4 : IVec S2x160000 32 := broadcastInDim S2x160000 ![] bcast_S_S2x160000 main_c
  let main_v5 : IVec S2x160000 1 := cmpi .sge main_arg0 main_v4
  let main_c_0 : IVec S_ 32 := constantI S_ 32 10000#32
  let main_v6 : IVec S2x160000 32 := broadcastInDim S2x160000 ![] bcast_S_S2x160000 main_c_0
  let main_v7 : IVec S2x160000 1 := cmpi .slt main_arg0 main_v6
  let main_v8 : IVec S2x160000 1 := andi main_v5 main_v7
  let main_c_1 : IVec S_ 32 := constantI S_ 32 0#32
  let main_v9 : IVec S5000 32 := broadcastInDim S5000 ![] bcast_S_S5000 main_c_1
  let main_v10 : IVec S5000 1 := cmpi .sge main_v0 main_v9
  let main_c_2 : IVec S_ 32 := constantI S_ 32 10000#32
  let main_v11 : IVec S5000 32 := broadcastInDim S5000 ![] bcast_S_S5000 main_c_2
  let main_v12 : IVec S5000 1 := cmpi .slt main_v0 main_v11
  let main_v13 : IVec S5000 1 := andi main_v10 main_v12
  let main_v14 : IVec S5000x1 32 := broadcastInDim S5000x1 ![0] bcast_S5000_S5000x1_0 main_v0
  let main_v15 : IVec S1x5000 32 := broadcastInDim S1x5000 ![1] bcast_S5000_S1x5000_1 main_v0
  let main_v16 : IVec S5000x5000 32 := broadcastInDim S5000x5000 ![0, 1] bcast_S5000x1_S5000x5000_0_1 main_v14
  let main_v17 : IVec S5000x5000 32 := broadcastInDim S5000x5000 ![0, 1] bcast_S1x5000_S5000x5000_0_1 main_v15
  let main_v18 : IVec S5000x5000 1 := cmpi .ne main_v16 main_v17
  let main_v19 : IVec S5000x5000 1 := cmpi .eq main_v2 main_v3
  fn_part1 (F := F) main_v1 main_v8 main_v13 main_v18 main_v19
-- ==== Kernel.lean ====
abbrev S2x160000 : Shape := ⟨2, ![2, 160000]⟩
abbrev S5120 : Shape := ⟨1, ![5120]⟩
abbrev S1x160000 : Shape := ⟨2, ![1, 160000]⟩
abbrev S160000 : Shape := ⟨1, ![160000]⟩
abbrev S_ : Shape := ⟨0, ![]⟩
abbrev S10240 : Shape := ⟨1, ![10240]⟩
abbrev S5120x1 : Shape := ⟨2, ![5120, 1]⟩
abbrev S160000x1 : Shape := ⟨2, ![160000, 1]⟩
abbrev S5120x10240 : Shape := ⟨2, ![5120, 10240]⟩
abbrev S160000x2 : Shape := ⟨2, ![160000, 2]⟩
abbrev S5120x2 : Shape := ⟨2, ![5120, 2]⟩
abbrev S5120x5120 : Shape := ⟨2, ![5120, 5120]⟩
abbrev S1x5120 : Shape := ⟨2, ![1, 5120]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩

abbrev nBuf : Space → Nat
  | .hbm => 212
  | .vmem => 11
  | .smem => 0
  | _ => 0

abbrev hbmTy0_0 (i : Nat) : BufTy := match i % 128 with
  | 0 => ⟨S2x160000, .i32⟩
  | 1 => ⟨S5120, .i32⟩
  | 2 => ⟨S1x160000, .i32⟩
  | 3 => ⟨S160000, .i32⟩
  | 4 => ⟨S1x160000, .i32⟩
  | 5 => ⟨S160000, .i32⟩
  | 6 => ⟨S_, .i32⟩
  | 7 => ⟨S10240, .i32⟩
  | 8 => ⟨S5120, .i32⟩
  | 9 => ⟨S_, .i32⟩
  | 10 => ⟨S5120, .i32⟩
  | 11 => ⟨S5120, .i1⟩
  | 12 => ⟨S_, .i32⟩
  | 13 => ⟨S5120, .i32⟩
  | 14 => ⟨S5120, .i32⟩
  | 15 => ⟨S5120, .i32⟩
  | 16 => ⟨S5120x1, .i32⟩
  | 17 => ⟨S10240, .i32⟩
  | 18 => ⟨S160000, .i1⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S160000, .i32⟩
  | 28 => ⟨S_, .i32⟩
  | 29 => ⟨S160000, .i32⟩
  | 30 => ⟨S160000, .i1⟩
  | 31 => ⟨S160000, .i1⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000, .i32⟩
  | 41 => ⟨S_, .i32⟩
  | 42 => ⟨S160000, .i32⟩
  | 43 => ⟨S160000, .i1⟩
  | 44 => ⟨S160000, .i1⟩
  | 45 => ⟨S_, .f32⟩
  | 46 => ⟨S5120x10240, .f32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000, .i32⟩
  | 56 => ⟨S_, .i32⟩
  | 57 => ⟨S_, .i32⟩
  | 58 => ⟨S160000, .i32⟩
  | 59 => ⟨S160000, .i32⟩
  | 60 => ⟨S_, .f32⟩
  | 61 => ⟨S_, .f32⟩
  | 62 => ⟨S160000, .f32⟩
  | 63 => ⟨S160000, .f32⟩
  | 64 => ⟨S160000, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S_, .i32⟩
  | 73 => ⟨S160000, .i32⟩
  | 74 => ⟨S160000, .i1⟩
  | 75 => ⟨S_, .i32⟩
  | 76 => ⟨S160000, .i32⟩
  | 77 => ⟨S160000, .i32⟩
  | 78 => ⟨S160000, .i32⟩
  | 79 => ⟨S160000x1, .i32⟩
  | 80 => ⟨S160000x1, .i32⟩
  | 81 => ⟨S160000x2, .i32⟩
  | 82 => ⟨S160000, .f32⟩
  | 83 => ⟨S5120x10240, .f32⟩
  | 84 => ⟨S5120, .i32⟩
  | 85 => ⟨S5120, .i32⟩
  | 86 => ⟨S_, .i32⟩
  | 87 => ⟨S5120, .i32⟩
  | 88 => ⟨S5120, .i1⟩
  | 89 => ⟨S_, .f32⟩
  | 90 => ⟨S_, .f32⟩
  | 91 => ⟨S5120, .f32⟩
  | 92 => ⟨S5120, .f32⟩
  | 93 => ⟨S5120, .f32⟩
  | 94 => ⟨S_, .i32⟩
  | 95 => ⟨S5120, .i32⟩
  | 96 => ⟨S5120, .i1⟩
  | 97 => ⟨S_, .i32⟩
  | 98 => ⟨S5120, .i32⟩
  | 99 => ⟨S5120, .i32⟩
  | 100 => ⟨S5120, .i32⟩
  | 101 => ⟨S_, .i32⟩
  | 102 => ⟨S5120, .i32⟩
  | 103 => ⟨S5120, .i1⟩
  | 104 => ⟨S_, .i32⟩
  | 105 => ⟨S5120, .i32⟩
  | 106 => ⟨S5120, .i32⟩
  | 107 => ⟨S5120, .i32⟩
  | 108 => ⟨S5120x1, .i32⟩
  | 109 => ⟨S5120x1, .i32⟩
  | 110 => ⟨S5120x2, .i32⟩
  | 111 => ⟨S5120, .f32⟩
  | 112 => ⟨S5120x10240, .f32⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000, .i32⟩
  | 122 => ⟨S_, .i32⟩
  | 123 => ⟨S160000, .i32⟩
  | 124 => ⟨S160000, .i1⟩
  | 125 => ⟨S160000, .i1⟩
  | 126 => ⟨S_, .i32⟩
  | 127 => ⟨S160000, .i32⟩
  | _ => ⟨S2x160000, .i32⟩

abbrev hbmTy0_1 (i : Nat) : BufTy := match i % 128 with
  | 0 => ⟨S160000, .i1⟩
  | 1 => ⟨S_, .i32⟩
  | 2 => ⟨S160000, .i32⟩
  | 3 => ⟨S160000, .i32⟩
  | 4 => ⟨S160000, .i32⟩
  | 5 => ⟨S160000x1, .i32⟩
  | 6 => ⟨S160000, .i32⟩
  | 7 => ⟨S_, .i32⟩
  | 8 => ⟨S160000, .i32⟩
  | 9 => ⟨S160000, .i1⟩
  | 10 => ⟨S160000, .i1⟩
  | 11 => ⟨S_, .f32⟩
  | 12 => ⟨S5120x10240, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S160000, .i32⟩
  | 22 => ⟨S_, .i32⟩
  | 23 => ⟨S_, .i32⟩
  | 24 => ⟨S160000, .i32⟩
  | 25 => ⟨S160000, .i32⟩
  | 26 => ⟨S_, .f32⟩
  | 27 => ⟨S_, .f32⟩
  | 28 => ⟨S160000, .f32⟩
  | 29 => ⟨S160000, .f32⟩
  | 30 => ⟨S160000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S160000x1, .i32⟩
  | 47 => ⟨S160000x2, .i32⟩
  | 48 => ⟨S160000, .f32⟩
  | 49 => ⟨S5120x10240, .f32⟩
  | 50 => ⟨S5120, .i32⟩
  | 51 => ⟨S5120, .i32⟩
  | 52 => ⟨S_, .i32⟩
  | 53 => ⟨S5120, .i32⟩
  | 54 => ⟨S5120, .i1⟩
  | 55 => ⟨S_, .f32⟩
  | 56 => ⟨S_, .f32⟩
  | 57 => ⟨S5120, .f32⟩
  | 58 => ⟨S5120, .f32⟩
  | 59 => ⟨S5120, .f32⟩
  | 60 => ⟨S_, .i32⟩
  | 61 => ⟨S5120, .i32⟩
  | 62 => ⟨S5120, .i1⟩
  | 63 => ⟨S_, .i32⟩
  | 64 => ⟨S5120, .i32⟩
  | 65 => ⟨S5120, .i32⟩
  | 66 => ⟨S5120, .i32⟩
  | 67 => ⟨S_, .i32⟩
  | 68 => ⟨S5120, .i32⟩
  | 69 => ⟨S5120, .i1⟩
  | 70 => ⟨S_, .i32⟩
  | 71 => ⟨S5120, .i32⟩
  | 72 => ⟨S5120, .i32⟩
  | 73 => ⟨S5120, .i32⟩
  | 74 => ⟨S5120x1, .i32⟩
  | 75 => ⟨S5120x1, .i32⟩
  | 76 => ⟨S5120x2, .i32⟩
  | 77 => ⟨S5120, .f32⟩
  | 78 => ⟨S5120x10240, .f32⟩
  | 79 => ⟨S5120x10240, .bf16⟩
  | 80 => ⟨S5120x10240, .bf16⟩
  | 81 => ⟨S5120x5120, .f32⟩
  | 82 => ⟨S5120x5120, .f32⟩
  | 83 => ⟨S1x5120, .f32⟩
  | _ => ⟨S2x160000, .i32⟩

abbrev hbmTy (i : Nat) : BufTy := match i / 128 with
  | 0 => hbmTy0_0 i
  | 1 => hbmTy0_1 i
  | _ => ⟨S2x160000, .i32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | _, _ => ⟨S2x160000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_c_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_call0_v0 : Ref sig .tc := ⟨.hbm, 57, rfl⟩
abbrev main_call0_v1 : Ref sig .tc := ⟨.hbm, 58, rfl⟩
abbrev main_v42 : Ref sig .tc := ⟨.hbm, 59, rfl⟩
abbrev main_cst_11 : Ref sig .tc := ⟨.hbm, 60, rfl⟩
abbrev main_cst_12 : Ref sig .tc := ⟨.hbm, 61, rfl⟩
abbrev main_call1_v0 : Ref sig .tc := ⟨.hbm, 62, rfl⟩
abbrev main_call1_v1 : Ref sig .tc := ⟨.hbm, 63, rfl⟩
abbrev main_v43 : Ref sig .tc := ⟨.hbm, 64, rfl⟩
abbrev main_c_13 : Ref sig .tc := ⟨.hbm, 65, rfl⟩
abbrev main_v44 : Ref sig .tc := ⟨.hbm, 66, rfl⟩
abbrev main_v45 : Ref sig .tc := ⟨.hbm, 67, rfl⟩
abbrev main_c_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_15 : Ref sig .tc := ⟨.hbm, 72, rfl⟩
abbrev main_v49 : Ref sig .tc := ⟨.hbm, 73, rfl⟩
abbrev main_v50 : Ref sig .tc := ⟨.hbm, 74, rfl⟩
abbrev main_c_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_17 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_cst_19 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_20 : Ref sig .tc := ⟨.hbm, 94, rfl⟩
abbrev main_v64 : Ref sig .tc := ⟨.hbm, 95, rfl⟩
abbrev main_v65 : Ref sig .tc := ⟨.hbm, 96, rfl⟩
abbrev main_c_21 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_22 : Ref sig .tc := ⟨.hbm, 101, rfl⟩
abbrev main_v69 : Ref sig .tc := ⟨.hbm, 102, rfl⟩
abbrev main_v70 : Ref sig .tc := ⟨.hbm, 103, rfl⟩
abbrev main_c_23 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_24 : Ref sig .tc := ⟨.hbm, 113, rfl⟩
abbrev main_v79 : Ref sig .tc := ⟨.hbm, 114, rfl⟩
abbrev main_v80 : Ref sig .tc := ⟨.hbm, 115, rfl⟩
abbrev main_c_25 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_26 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_27 : Ref sig .tc := ⟨.hbm, 126, rfl⟩
abbrev main_v89 : Ref sig .tc := ⟨.hbm, 127, rfl⟩
abbrev main_v90 : Ref sig .tc := ⟨.hbm, 128, rfl⟩
abbrev main_c_28 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_c_29 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_30 : Ref sig .tc := ⟨.hbm, 139, rfl⟩
abbrev main_v99 : Ref sig .tc := ⟨.hbm, 140, rfl⟩
abbrev main_c_31 : Ref sig .tc := ⟨.hbm, 141, rfl⟩
abbrev main_v100 : Ref sig .tc := ⟨.hbm, 142, rfl⟩
abbrev main_v101 : Ref sig .tc := ⟨.hbm, 143, rfl⟩
abbrev main_c_32 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_33 : Ref sig .tc := ⟨.hbm, 150, rfl⟩
abbrev main_call3_v0 : Ref sig .tc := ⟨.hbm, 151, rfl⟩
abbrev main_call3_v1 : Ref sig .tc := ⟨.hbm, 152, rfl⟩
abbrev main_v107 : Ref sig .tc := ⟨.hbm, 153, rfl⟩
abbrev main_cst_34 : Ref sig .tc := ⟨.hbm, 154, rfl⟩
abbrev main_cst_35 : Ref sig .tc := ⟨.hbm, 155, rfl⟩
abbrev main_call4_v0 : Ref sig .tc := ⟨.hbm, 156, rfl⟩
abbrev main_call4_v1 : Ref sig .tc := ⟨.hbm, 157, rfl⟩
abbrev main_v108 : Ref sig .tc := ⟨.hbm, 158, rfl⟩
abbrev main_c_36 : Ref sig .tc := ⟨.hbm, 159, rfl⟩
abbrev main_v109 : Ref sig .tc := ⟨.hbm, 160, rfl⟩
abbrev main_v110 : Ref sig .tc := ⟨.hbm, 161, rfl⟩
abbrev main_c_37 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_38 : Ref sig .tc := ⟨.hbm, 166, rfl⟩
abbrev main_v114 : Ref sig .tc := ⟨.hbm, 167, rfl⟩
abbrev main_v115 : Ref sig .tc := ⟨.hbm, 168, rfl⟩
abbrev main_c_39 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_c_40 : Ref sig .tc := ⟨.hbm, 180, rfl⟩
abbrev main_v126 : Ref sig .tc := ⟨.hbm, 181, rfl⟩
abbrev main_v127 : Ref sig .tc := ⟨.hbm, 182, rfl⟩
abbrev main_cst_41 : Ref sig .tc := ⟨.hbm, 183, rfl⟩
abbrev main_cst_42 : Ref sig .tc := ⟨.hbm, 184, rfl⟩
abbrev main_call5_v0 : Ref sig .tc := ⟨.hbm, 185, rfl⟩
abbrev main_call5_v1 : Ref sig .tc := ⟨.hbm, 186, rfl⟩
abbrev main_v128 : Ref sig .tc := ⟨.hbm, 187, rfl⟩
abbrev main_c_43 : Ref sig .tc := ⟨.hbm, 188, rfl⟩
abbrev main_v129 : Ref sig .tc := ⟨.hbm, 189, rfl⟩
abbrev main_v130 : Ref sig .tc := ⟨.hbm, 190, rfl⟩
abbrev main_c_44 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_c_45 : Ref sig .tc := ⟨.hbm, 195, rfl⟩
abbrev main_v134 : Ref sig .tc := ⟨.hbm, 196, rfl⟩
abbrev main_v135 : Ref sig .tc := ⟨.hbm, 197, rfl⟩
abbrev main_c_46 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146_0 : Ref sig .tc := ⟨.hbm, 209, rfl⟩
abbrev main_v146_1 : Ref sig .tc := ⟨.hbm, 210, rfl⟩
abbrev main_v146_2 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![10, 10, 10], ![false, false, false]⟩

def k0_cond2 (i : grid0.Coords) : BitVec 1 :=
  let arg2 : BitVec 32 := BitVec.ofNat 32 (i 2).val
  let c9_i32 : BitVec 32 := 9#32
  let v13 : BitVec 1 := Scalar.cmpi .eq arg2 c9_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg1 : BitVec 32 := BitVec.ofNat 32 (i 1).val
  let c0_i32_17 : BitVec 32 := 0#32
  let v31 : BitVec 1 := Scalar.cmpi .eq arg1 c0_i32_17
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ReferenceIdeal.lean ====
abbrev S2x160000 : Shape := ⟨2, ![2, 160000]⟩
abbrev S5120 : Shape := ⟨1, ![5120]⟩
abbrev S_ : Shape := ⟨0, ![]⟩
abbrev S10000x10000 : Shape := ⟨2, ![10000, 10000]⟩
abbrev S1x160000 : Shape := ⟨2, ![1, 160000]⟩
abbrev S160000 : Shape := ⟨1, ![160000]⟩
abbrev S160000x1 : Shape := ⟨2, ![160000, 1]⟩
abbrev S160000x2 : Shape := ⟨2, ![160000, 2]⟩
abbrev S5000 : Shape := ⟨1, ![5000]⟩
abbrev S5000x1 : Shape := ⟨2, ![5000, 1]⟩
abbrev S5000x10000 : Shape := ⟨2, ![5000, 10000]⟩
abbrev S5000x5000 : Shape := ⟨2, ![5000, 5000]⟩
abbrev S5120x5120 : Shape := ⟨2, ![5120, 5120]⟩
abbrev S1x5120 : Shape := ⟨2, ![1, 5120]⟩

abbrev nBuf : Space → Nat
  | .hbm => 71
  | .vmem => 0
  | .smem => 0
  | _ => 0

abbrev bufTy : (tb : Table) → Fin (tcTables nBuf tb) → BufTy
  | .hbm, ⟨0, _⟩ => ⟨S2x160000, .i32⟩
  | .hbm, ⟨1, _⟩ => ⟨S5120, .i32⟩
  | .hbm, ⟨2, _⟩ => ⟨S_, .f32⟩
  | .hbm, ⟨3, _⟩ => ⟨S10000x10000, .f32⟩
  | .hbm, ⟨4, _⟩ => ⟨S1x160000, .i32⟩
  | .hbm, ⟨5, _⟩ => ⟨S160000, .i32⟩
  | .hbm, ⟨6, _⟩ => ⟨S1x160000, .i32⟩
  | .hbm, ⟨7, _⟩ => ⟨S160000, .i32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S160000x1, .i32⟩
  | .hbm, ⟨24, _⟩ => ⟨S160000x2, .i32⟩
  | .hbm, ⟨25, _⟩ => ⟨S_, .f32⟩
  | .hbm, ⟨26, _⟩ => ⟨S160000, .f32⟩
  | .hbm, ⟨27, _⟩ => ⟨S10000x10000, .f32⟩
  | .hbm, ⟨28, _⟩ => ⟨S5000, .i32⟩
  | .hbm, ⟨29, _⟩ => ⟨S10000x10000, .i32⟩
  | .hbm, ⟨30, _⟩ => ⟨S10000x10000, .i32⟩
  | .hbm, ⟨31, _⟩ => ⟨S_, .i32⟩
  | .hbm, ⟨32, _⟩ => ⟨S10000x10000, .i32⟩
  | .hbm, ⟨33, _⟩ => ⟨S10000x10000, .i32⟩
  | .hbm, ⟨34, _⟩ => ⟨S10000x10000, .i1⟩
  | .hbm, ⟨35, _⟩ => ⟨S10000x10000, .f32⟩
  | .hbm, ⟨36, _⟩ => ⟨S_, .f32⟩
  | .hbm, ⟨37, _⟩ => ⟨S10000x10000, .f32⟩
  | .hbm, ⟨38, _⟩ => ⟨S10000x10000, .f32⟩
  | .hbm, ⟨39, _⟩ => ⟨S10000x10000, .f32⟩
  | .hbm, ⟨40, _⟩ => ⟨S10000x10000, .f32⟩
  | .hbm, ⟨41, _⟩ => ⟨S10000x10000, .f32⟩
  | .hbm, ⟨42, _⟩ => ⟨S_, .f32⟩
  | .hbm, ⟨43, _⟩ => ⟨S10000x10000, .f32⟩
  | .hbm, ⟨44, _⟩ => ⟨S10000x10000, .f32⟩
  | .hbm, ⟨45, _⟩ => ⟨S10000x10000, .f32⟩
  | .hbm, ⟨46, _⟩ => ⟨S_, .i32⟩
  | .hbm, ⟨47, _⟩ => ⟨S5000, .i32⟩
  | .hbm, ⟨48, _⟩ => ⟨S5000, .i1⟩
  | .hbm, ⟨49, _⟩ => ⟨S_, .i32⟩
  | .hbm, ⟨50, _⟩ => ⟨S5000, .i32⟩
  | .hbm, ⟨51, _⟩ => ⟨S5000, .i32⟩
  | .hbm, ⟨52, _⟩ => ⟨S5000, .i32⟩
  | .hbm, ⟨53, _⟩ => ⟨S5000x1, .i32⟩
  | .hbm, ⟨54, _⟩ => ⟨S5000x10000, .f32⟩
  | .hbm, ⟨55, _⟩ => ⟨S_, .i32⟩
  | .hbm, ⟨56, _⟩ => ⟨S5000, .i32⟩
  | .hbm, ⟨57, _⟩ => ⟨S5000, .i1⟩
  | .hbm, ⟨58, _⟩ => ⟨S_, .i32⟩
  | .hbm, ⟨59, _⟩ => ⟨S5000, .i32⟩
  | .hbm, ⟨60, _⟩ => ⟨S5000, .i32⟩
  | .hbm, ⟨61, _⟩ => ⟨S5000, .i32⟩
  | .hbm, ⟨62, _⟩ => ⟨S5000x1, .i32⟩
  | .hbm, ⟨63, _⟩ => ⟨S5000x5000, .f32⟩
  | .hbm, ⟨64, _⟩ => ⟨S_, .i32⟩
  | .hbm, ⟨65, _⟩ => ⟨S_, .f32⟩
  | .hbm, ⟨66, _⟩ => ⟨S5120x5120, .f32⟩
  | .hbm, ⟨67, _⟩ => ⟨S5120x5120, .f32⟩
  | .hbm, ⟨68, _⟩ => ⟨S_, .f32⟩
  | .hbm, ⟨69, _⟩ => ⟨S5120, .f32⟩
  | .hbm, ⟨70, _⟩ => ⟨S1x5120, .f32⟩
  | _, _ => ⟨S2x160000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_7 : Ref sig .tc := ⟨.hbm, 46, rfl⟩
abbrev main_v35 : Ref sig .tc := ⟨.hbm, 47, rfl⟩
abbrev main_v36 : Ref sig .tc := ⟨.hbm, 48, rfl⟩
abbrev main_c_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_c_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_11 : Ref sig .tc := ⟨.hbm, 64, rfl⟩
abbrev main_call0_v0 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel2.lean ====
abbrev S5000x5000 : Shape := ⟨2, ![5000, 5000]⟩
abbrev S2560 : Shape := ⟨1, ![2560]⟩
abbrev S_ : Shape := ⟨0, ![]⟩
abbrev S5120x5120 : Shape := ⟨2, ![5120, 5120]⟩
abbrev S2560x1 : Shape := ⟨2, ![2560, 1]⟩
abbrev S2560x5120 : Shape := ⟨2, ![2560, 5120]⟩
abbrev S2560x2 : Shape := ⟨2, ![2560, 2]⟩
abbrev S2560x2560 : Shape := ⟨2, ![2560, 2560]⟩
abbrev S1x2560 : Shape := ⟨2, ![1, 2560]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩

abbrev nBuf : Space → Nat
  | .hbm => 87
  | .vmem => 11
  | .smem => 0
  | _ => 0

abbrev bufTy : (tb : Table) → Fin (tcTables nBuf tb) → BufTy
  | .hbm, ⟨0, _⟩ => ⟨S5000x5000, .f32⟩
  | .hbm, ⟨1, _⟩ => ⟨S2560, .i32⟩
  | .hbm, ⟨2, _⟩ => ⟨S_, .i32⟩
  | .hbm, ⟨3, _⟩ => ⟨S_, .f32⟩
  | .hbm, ⟨4, _⟩ => ⟨S5120x5120, .f32⟩
  | .hbm, ⟨5, _⟩ => ⟨S5120x5120, .f32⟩
  | .hbm, ⟨6, _⟩ => ⟨S_, .i32⟩
  | .hbm, ⟨7, _⟩ => ⟨S2560, .i32⟩
  | .hbm, ⟨8, _⟩ => ⟨S2560, .i1⟩
  | .hbm, ⟨9, _⟩ => ⟨S_, .i32⟩
  | .hbm, ⟨10, _⟩ => ⟨S2560, .i32⟩
  | .hbm, ⟨11, _⟩ => ⟨S2560, .i32⟩
  | .hbm, ⟨12, _⟩ => ⟨S2560, .i32⟩
  | .hbm, ⟨13, _⟩ => ⟨S2560x1, .i32⟩
  | .hbm, ⟨14, _⟩ => ⟨S2560x5120, .f32⟩
  | .hbm, ⟨15, _⟩ => ⟨S2560, .i32⟩
  | .hbm, ⟨16, _⟩ => ⟨S_, .i32⟩
  | .hbm, ⟨17, _⟩ => ⟨S2560, .i32⟩
  | .hbm, ⟨18, _⟩ => ⟨S2560, .i1⟩
  | .hbm, ⟨19, _⟩ => ⟨S_, .f32⟩
  | .hbm, ⟨20, _⟩ => ⟨S_, .f32⟩
  | .hbm, ⟨21, _⟩ => ⟨S2560, .f32⟩
  | .hbm, ⟨22, _⟩ => ⟨S2560, .f32⟩
  | .hbm, ⟨23, _⟩ => ⟨S2560, .f32⟩
  | .hbm, ⟨24, _⟩ => ⟨S2560, .f32⟩
  | .hbm, ⟨25, _⟩ => ⟨S2560, .i32⟩
  | .hbm, ⟨26, _⟩ => ⟨S_, .i32⟩
  | .hbm, ⟨27, _⟩ => ⟨S2560, .i32⟩
  | .hbm, ⟨28, _⟩ => ⟨S2560, .i1⟩
  | .hbm, ⟨29, _⟩ => ⟨S_, .i32⟩
  | .hbm, ⟨30, _⟩ => ⟨S2560, .i32⟩
  | .hbm, ⟨31, _⟩ => ⟨S2560, .i32⟩
  | .hbm, ⟨32, _⟩ => ⟨S2560, .i32⟩
  | .hbm, ⟨33, _⟩ => ⟨S_, .i32⟩
  | .hbm, ⟨34, _⟩ => ⟨S2560, .i32⟩
  | .hbm, ⟨35, _⟩ => ⟨S2560, .i1⟩
  | .hbm, ⟨36, _⟩ => ⟨S_, .i32⟩
  | .hbm, ⟨37, _⟩ => ⟨S2560, .i32⟩
  | .hbm, ⟨38, _⟩ => ⟨S2560, .i32⟩
  | .hbm, ⟨39, _⟩ => ⟨S2560, .i32⟩
  | .hbm, ⟨40, _⟩ => ⟨S2560x1, .i32⟩
  | .hbm, ⟨41, _⟩ => ⟨S2560x1, .i32⟩
  | .hbm, ⟨42, _⟩ => ⟨S2560x2, .i32⟩
  | .hbm, ⟨43, _⟩ => ⟨S2560x5120, .f32⟩
  | .hbm, ⟨44, _⟩ => ⟨S_, .i32⟩
  | .hbm, ⟨45, _⟩ => ⟨S2560, .i32⟩
  | .hbm, ⟨46, _⟩ => ⟨S2560, .i1⟩
  | .hbm, ⟨47, _⟩ => ⟨S_, .i32⟩
  | .hbm, ⟨48, _⟩ => ⟨S2560, .i32⟩
  | .hbm, ⟨49, _⟩ => ⟨S2560, .i32⟩
  | .hbm, ⟨50, _⟩ => ⟨S2560, .i32⟩
  | .hbm, ⟨51, _⟩ => ⟨S2560x1, .i32⟩
  | .hbm, ⟨52, _⟩ => ⟨S2560x5120, .f32⟩
  | .hbm, ⟨53, _⟩ => ⟨S2560, .i32⟩
  | .hbm, ⟨54, _⟩ => ⟨S_, .i32⟩
  | .hbm, ⟨55, _⟩ => ⟨S2560, .i32⟩
  | .hbm, ⟨56, _⟩ => ⟨S2560, .i1⟩
  | .hbm, ⟨57, _⟩ => ⟨S_, .f32⟩
  | .hbm, ⟨58, _⟩ => ⟨S_, .f32⟩
  | .hbm, ⟨59, _⟩ => ⟨S2560, .f32⟩
  | .hbm, ⟨60, _⟩ => ⟨S2560, .f32⟩
  | .hbm, ⟨61, _⟩ => ⟨S2560, .f32⟩
  | .hbm, ⟨62, _⟩ => ⟨S2560, .f32⟩
  | .hbm, ⟨63, _⟩ => ⟨S2560, .i32⟩
  | .hbm, ⟨64, _⟩ => ⟨S_, .i32⟩
  | .hbm, ⟨65, _⟩ => ⟨S2560, .i32⟩
  | .hbm, ⟨66, _⟩ => ⟨S2560, .i1⟩
  | .hbm, ⟨67, _⟩ => ⟨S_, .i32⟩
  | .hbm, ⟨68, _⟩ => ⟨S2560, .i32⟩
  | .hbm, ⟨69, _⟩ => ⟨S2560, .i32⟩
  | .hbm, ⟨70, _⟩ => ⟨S2560, .i32⟩
  | .hbm, ⟨71, _⟩ => ⟨S_, .i32⟩
  | .hbm, ⟨72, _⟩ => ⟨S2560, .i32⟩
  | .hbm, ⟨73, _⟩ => ⟨S2560, .i1⟩
  | .hbm, ⟨74, _⟩ => ⟨S_, .i32⟩
  | .hbm, ⟨75, _⟩ => ⟨S2560, .i32⟩
  | .hbm, ⟨76, _⟩ => ⟨S2560, .i32⟩
  | .hbm, ⟨77, _⟩ => ⟨S2560, .i32⟩
  | .hbm, ⟨78, _⟩ => ⟨S2560x1, .i32⟩
  | .hbm, ⟨79, _⟩ => ⟨S2560x1, .i32⟩
  | .hbm, ⟨80, _⟩ => ⟨S2560x2, .i32⟩
  | .hbm, ⟨81, _⟩ => ⟨S2560x5120, .f32⟩
  | .hbm, ⟨82, _⟩ => ⟨S2560x5120, .bf16⟩
  | .hbm, ⟨83, _⟩ => ⟨S2560x5120, .bf16⟩
  | .hbm, ⟨84, _⟩ => ⟨S2560x2560, .f32⟩
  | .hbm, ⟨85, _⟩ => ⟨S2560x2560, .f32⟩
  | .hbm, ⟨86, _⟩ => ⟨S1x2560, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | _, _ => ⟨S5000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_c_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_13 : Ref sig .tc := ⟨.hbm, 64, rfl⟩
abbrev main_v42 : Ref sig .tc := ⟨.hbm, 65, rfl⟩
abbrev main_v43 : Ref sig .tc := ⟨.hbm, 66, rfl⟩
abbrev main_c_14 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_15 : Ref sig .tc := ⟨.hbm, 71, rfl⟩
abbrev main_v47 : Ref sig .tc := ⟨.hbm, 72, rfl⟩
abbrev main_v48 : Ref sig .tc := ⟨.hbm, 73, rfl⟩
abbrev main_c_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58_0 : Ref sig .tc := ⟨.hbm, 84, rfl⟩
abbrev main_v58_1 : Ref sig .tc := ⟨.hbm, 85, rfl⟩
abbrev main_v58_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![5, 5, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg1 : BitVec 32 := BitVec.ofNat 32 (i 1).val
  let c0_i32_17 : BitVec 32 := 0#32
  let v31 : BitVec 1 := Scalar.cmpi .eq arg1 c0_i32_17
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference2Ideal.lean ====
abbrev S5000x5000 : Shape := ⟨2, ![5000, 5000]⟩
abbrev S2560 : Shape := ⟨1, ![2560]⟩
abbrev S2500 : Shape := ⟨1, ![2500]⟩
abbrev S_ : Shape := ⟨0, ![]⟩
abbrev S2500x1 : Shape := ⟨2, ![2500, 1]⟩
abbrev S2500x5000 : Shape := ⟨2, ![2500, 5000]⟩
abbrev S2500x2500 : Shape := ⟨2, ![2500, 2500]⟩
abbrev S2560x2560 : Shape := ⟨2, ![2560, 2560]⟩
abbrev S1x2560 : Shape := ⟨2, ![1, 2560]⟩

abbrev nBuf : Space → Nat
  | .hbm => 45
  | .vmem => 0
  | .smem => 0
  | _ => 0

abbrev bufTy : (tb : Table) → Fin (tcTables nBuf tb) → BufTy
  | .hbm, ⟨0, _⟩ => ⟨S5000x5000, .f32⟩
  | .hbm, ⟨1, _⟩ => ⟨S2560, .i32⟩
  | .hbm, ⟨2, _⟩ => ⟨S2500, .i32⟩
  | .hbm, ⟨3, _⟩ => ⟨S5000x5000, .i32⟩
  | .hbm, ⟨4, _⟩ => ⟨S5000x5000, .i32⟩
  | .hbm, ⟨5, _⟩ => ⟨S_, .i32⟩
  | .hbm, ⟨6, _⟩ => ⟨S5000x5000, .i32⟩
  | .hbm, ⟨7, _⟩ => ⟨S5000x5000, .i32⟩
  | .hbm, ⟨8, _⟩ => ⟨S5000x5000, .i1⟩
  | .hbm, ⟨9, _⟩ => ⟨S5000x5000, .f32⟩
  | .hbm, ⟨10, _⟩ => ⟨S_, .f32⟩
  | .hbm, ⟨11, _⟩ => ⟨S5000x5000, .f32⟩
  | .hbm, ⟨12, _⟩ => ⟨S5000x5000, .f32⟩
  | .hbm, ⟨13, _⟩ => ⟨S5000x5000, .f32⟩
  | .hbm, ⟨14, _⟩ => ⟨S5000x5000, .f32⟩
  | .hbm, ⟨15, _⟩ => ⟨S5000x5000, .f32⟩
  | .hbm, ⟨16, _⟩ => ⟨S_, .f32⟩
  | .hbm, ⟨17, _⟩ => ⟨S5000x5000, .f32⟩
  | .hbm, ⟨18, _⟩ => ⟨S5000x5000, .f32⟩
  | .hbm, ⟨19, _⟩ => ⟨S5000x5000, .f32⟩
  | .hbm, ⟨20, _⟩ => ⟨S_, .i32⟩
  | .hbm, ⟨21, _⟩ => ⟨S2500, .i32⟩
  | .hbm, ⟨22, _⟩ => ⟨S2500, .i1⟩
  | .hbm, ⟨23, _⟩ => ⟨S_, .i32⟩
  | .hbm, ⟨24, _⟩ => ⟨S2500, .i32⟩
  | .hbm, ⟨25, _⟩ => ⟨S2500, .i32⟩
  | .hbm, ⟨26, _⟩ => ⟨S2500, .i32⟩
  | .hbm, ⟨27, _⟩ => ⟨S2500x1, .i32⟩
  | .hbm, ⟨28, _⟩ => ⟨S2500x5000, .f32⟩
  | .hbm, ⟨29, _⟩ => ⟨S_, .i32⟩
  | .hbm, ⟨30, _⟩ => ⟨S2500, .i32⟩
  | .hbm, ⟨31, _⟩ => ⟨S2500, .i1⟩
  | .hbm, ⟨32, _⟩ => ⟨S_, .i32⟩
  | .hbm, ⟨33, _⟩ => ⟨S2500, .i32⟩
  | .hbm, ⟨34, _⟩ => ⟨S2500, .i32⟩
  | .hbm, ⟨35, _⟩ => ⟨S2500, .i32⟩
  | .hbm, ⟨36, _⟩ => ⟨S2500x1, .i32⟩
  | .hbm, ⟨37, _⟩ => ⟨S2500x2500, .f32⟩
  | .hbm, ⟨38, _⟩ => ⟨S_, .i32⟩
  | .hbm, ⟨39, _⟩ => ⟨S_, .f32⟩
  | .hbm, ⟨40, _⟩ => ⟨S2560x2560, .f32⟩
  | .hbm, ⟨41, _⟩ => ⟨S2560x2560, .f32⟩
  | .hbm, ⟨42, _⟩ => ⟨S_, .f32⟩
  | .hbm, ⟨43, _⟩ => ⟨S2560, .f32⟩
  | .hbm, ⟨44, _⟩ => ⟨S1x2560, .f32⟩
  | _, _ => ⟨S5000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel3.lean ====
abbrev S10000x128 : Shape := ⟨2, ![10000, 128]⟩
abbrev S5120x128 : Shape := ⟨2, ![5120, 128]⟩
abbrev S5120 : Shape := ⟨1, ![5120]⟩
abbrev S2x160000 : Shape := ⟨2, ![2, 160000]⟩
abbrev S128x128 : Shape := ⟨2, ![128, 128]⟩
abbrev S128 : Shape := ⟨1, ![128]⟩
abbrev S256x128 : Shape := ⟨2, ![256, 128]⟩
abbrev S1x160000 : Shape := ⟨2, ![1, 160000]⟩
abbrev S160000 : Shape := ⟨1, ![160000]⟩
abbrev S_ : Shape := ⟨0, ![]⟩
abbrev S10240x128 : Shape := ⟨2, ![10240, 128]⟩
abbrev S1 : Shape := ⟨1, ![1]⟩
abbrev S10240 : Shape := ⟨1, ![10240]⟩
abbrev S160000x1 : Shape := ⟨2, ![160000, 1]⟩
abbrev S1x128 : Shape := ⟨2, ![1, 128]⟩
abbrev S10240x1 : Shape := ⟨2, ![10240, 1]⟩
abbrev S512x128 : Shape := ⟨2, ![512, 128]⟩
abbrev S512x1 : Shape := ⟨2, ![512, 1]⟩
abbrev S160000x128 : Shape := ⟨2, ![160000, 128]⟩
abbrev S5120x1 : Shape := ⟨2, ![5120, 1]⟩
abbrev S10240x256 : Shape := ⟨2, ![10240, 256]⟩
abbrev S512x256 : Shape := ⟨2, ![512, 256]⟩

abbrev nBuf : Space → Nat
  | .hbm => 141
  | .vmem => 24
  | .smem => 0
  | _ => 0

abbrev hbmTy0_0 (i : Nat) : BufTy := match i % 128 with
  | 0 => ⟨S10000x128, .f32⟩
  | 1 => ⟨S5120x128, .f32⟩
  | 2 => ⟨S5120, .i32⟩
  | 3 => ⟨S2x160000, .i32⟩
  | 4 => ⟨S128x128, .f32⟩
  | 5 => ⟨S128, .f32⟩
  | 6 => ⟨S256x128, .f32⟩
  | 7 => ⟨S128, .f32⟩
  | 8 => ⟨S1x160000, .i32⟩
  | 9 => ⟨S160000, .i32⟩
  | 10 => ⟨S1x160000, .i32⟩
  | 11 => ⟨S160000, .i32⟩
  | 12 => ⟨S_, .f32⟩
  | 13 => ⟨S10240x128, .f32⟩
  | 14 => ⟨S_, .i32⟩
  | 15 => ⟨S1, .i32⟩
  | 16 => ⟨S10240x128, .f32⟩
  | 17 => ⟨S_, .f32⟩
  | 18 => ⟨S160000, .f32⟩
  | 19 => ⟨S_, .f32⟩
  | 20 => ⟨S10240, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S10240, .f32⟩
  | 30 => ⟨S_, .f32⟩
  | 31 => ⟨S10240, .f32⟩
  | 32 => ⟨S160000, .i1⟩
  | 33 => ⟨S_, .f32⟩
  | 34 => ⟨S_, .f32⟩
  | 35 => ⟨S160000, .f32⟩
  | 36 => ⟨S160000, .f32⟩
  | 37 => ⟨S160000, .f32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S160000, .f32⟩
  | 47 => ⟨S10240, .f32⟩
  | 48 => ⟨S_, .f32⟩
  | 49 => ⟨S10240, .f32⟩
  | 50 => ⟨S10240, .i1⟩
  | 51 => ⟨S_, .f32⟩
  | 52 => ⟨S_, .f32⟩
  | 53 => ⟨S10240, .f32⟩
  | 54 => ⟨S10240, .f32⟩
  | 55 => ⟨S10240, .f32⟩
  | 56 => ⟨S10240, .f32⟩
  | 57 => ⟨S10240, .f32⟩
  | 58 => ⟨S10240, .f32⟩
  | 59 => ⟨S_, .f32⟩
  | 60 => ⟨S10240, .f32⟩
  | 61 => ⟨S10240, .i1⟩
  | 62 => ⟨S_, .f32⟩
  | 63 => ⟨S_, .f32⟩
  | 64 => ⟨S10240, .f32⟩
  | 65 => ⟨S10240, .f32⟩
  | 66 => ⟨S10240, .f32⟩
  | 67 => ⟨S1x128, .f32⟩
  | 68 => ⟨S10240x1, .f32⟩
  | 69 => ⟨S10240x1, .f32⟩
  | 70 => ⟨S10240x128, .f32⟩
  | 71 => ⟨S10240x128, .f32⟩
  | 72 => ⟨S_, .f32⟩
  | 73 => ⟨S10240x128, .f32⟩
  | 74 => ⟨S_, .i32⟩
  | 75 => ⟨S160000, .i32⟩
  | 76 => ⟨S160000, .i1⟩
  | 77 => ⟨S_, .i32⟩
  | 78 => ⟨S160000, .i32⟩
  | 79 => ⟨S160000, .i32⟩
  | 80 => ⟨S160000, .i32⟩
  | 81 => ⟨S160000x1, .i32⟩
  | 82 => ⟨S160000x128, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S10240x128, .f32⟩
  | 92 => ⟨S10240x1, .f32⟩
  | 93 => ⟨S10240x128, .f32⟩
  | 94 => ⟨S10240x128, .f32⟩
  | 95 => ⟨S10240x128, .f32⟩
  | 96 => ⟨S_, .f32⟩
  | 97 => ⟨S10240x128, .f32⟩
  | 98 => ⟨S10240x128, .f32⟩
  | 99 => ⟨S_, .f32⟩
  | 100 => ⟨S10240x128, .f32⟩
  | 101 => ⟨S_, .i32⟩
  | 102 => ⟨S5120, .i32⟩
  | 103 => ⟨S5120, .i1⟩
  | 104 => ⟨S_, .i32⟩
  | 105 => ⟨S5120, .i32⟩
  | 106 => ⟨S5120, .i32⟩
  | 107 => ⟨S5120, .i32⟩
  | 108 => ⟨S5120x1, .i32⟩
  | 109 => ⟨S10240x128, .f32⟩
  | 110 => ⟨S10240x256, .f32⟩
  | 111 => ⟨S1x128, .f32⟩
  | 112 => ⟨S10240x1, .f32⟩
  | 113 => ⟨S10240x1, .f32⟩
  | 114 => ⟨S10240x128, .f32⟩
  | 115 => ⟨S10240x128, .f32⟩
  | 116 => ⟨S_, .f32⟩
  | 117 => ⟨S10240x128, .f32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000x128, .f32⟩
  | 127 => ⟨S_, .i32⟩
  | _ => ⟨S10000x128, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S10240x128, .f32⟩
  | 8 => ⟨S10240x1, .f32⟩
  | 9 => ⟨S10240x128, .f32⟩
  | 10 => ⟨S10240x128, .f32⟩
  | 11 => ⟨S10240x128, .f32⟩
  | 12 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S256x128, .f32⟩
  | .local _ .vmem, ⟨15, _⟩ => ⟨S1x128, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c_7 : Ref sig .tc := ⟨.hbm, 38, rfl⟩
abbrev main_v19 : Ref sig .tc := ⟨.hbm, 39, rfl⟩
abbrev main_v20 : Ref sig .tc := ⟨.hbm, 40, rfl⟩
abbrev main_c_8 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_cst_10 : Ref sig .tc := ⟨.hbm, 51, rfl⟩
abbrev main_cst_11 : Ref sig .tc := ⟨.hbm, 52, rfl⟩
abbrev main_call1_v0 : Ref sig .tc := ⟨.hbm, 53, rfl⟩
abbrev main_call1_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_v33 : Ref sig .tc := ⟨.hbm, 60, rfl⟩
abbrev main_v34 : Ref sig .tc := ⟨.hbm, 61, rfl⟩
abbrev main_cst_13 : Ref sig .tc := ⟨.hbm, 62, rfl⟩
abbrev main_cst_14 : Ref sig .tc := ⟨.hbm, 63, rfl⟩
abbrev main_call2_v0 : Ref sig .tc := ⟨.hbm, 64, rfl⟩
abbrev main_call2_v1 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39_0 : Ref sig .tc := ⟨.hbm, 70, rfl⟩
abbrev main_v39_1 : Ref sig .tc := ⟨.hbm, 71, rfl⟩
abbrev main_cst_15 : Ref sig .tc := ⟨.hbm, 72, rfl⟩
abbrev main_v40 : Ref sig .tc := ⟨.hbm, 73, rfl⟩
abbrev main_c_16 : Ref sig .tc := ⟨.hbm, 74, rfl⟩
abbrev main_v41 : Ref sig .tc := ⟨.hbm, 75, rfl⟩
abbrev main_v42 : Ref sig .tc := ⟨.hbm, 76, rfl⟩
abbrev main_c_17 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_18 : Ref sig .tc := ⟨.hbm, 83, rfl⟩
abbrev main_v48 : Ref sig .tc := ⟨.hbm, 84, rfl⟩
abbrev main_v49 : Ref sig .tc := ⟨.hbm, 85, rfl⟩
abbrev main_c_19 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call3_cst : Ref sig .tc := ⟨.hbm, 96, rfl⟩
abbrev main_call3_v0 : Ref sig .tc := ⟨.hbm, 97, rfl⟩
abbrev main_v59 : Ref sig .tc := ⟨.hbm, 98, rfl⟩
abbrev main_cst_20 : Ref sig .tc := ⟨.hbm, 99, rfl⟩
abbrev main_v60 : Ref sig .tc := ⟨.hbm, 100, rfl⟩
abbrev main_c_21 : Ref sig .tc := ⟨.hbm, 101, rfl⟩
abbrev main_v61 : Ref sig .tc := ⟨.hbm, 102, rfl⟩
abbrev main_v62 : Ref sig .tc := ⟨.hbm, 103, rfl⟩
abbrev main_c_22 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72_0 : Ref sig .tc := ⟨.hbm, 114, rfl⟩
abbrev main_v72_1 : Ref sig .tc := ⟨.hbm, 115, rfl⟩
abbrev main_cst_23 : Ref sig .tc := ⟨.hbm, 116, rfl⟩
abbrev main_v73 : Ref sig .tc := ⟨.hbm, 117, rfl⟩
abbrev main_c_24 : Ref sig .tc := ⟨.hbm, 118, rfl⟩
abbrev main_v74 : Ref sig .tc := ⟨.hbm, 119, rfl⟩
abbrev main_v75 : Ref sig .tc := ⟨.hbm, 120, rfl⟩
abbrev main_c_25 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_26 : Ref sig .tc := ⟨.hbm, 127, rfl⟩
abbrev main_v81 : Ref sig .tc := ⟨.hbm, 128, rfl⟩
abbrev main_v82 : Ref sig .tc := ⟨.hbm, 129, rfl⟩
abbrev main_c_27 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference3Ideal.lean ====
abbrev S10000x128 : Shape := ⟨2, ![10000, 128]⟩
abbrev S5120x128 : Shape := ⟨2, ![5120, 128]⟩
abbrev S5120 : Shape := ⟨1, ![5120]⟩
abbrev S2x160000 : Shape := ⟨2, ![2, 160000]⟩
abbrev S128x128 : Shape := ⟨2, ![128, 128]⟩
abbrev S128 : Shape := ⟨1, ![128]⟩
abbrev S256x128 : Shape := ⟨2, ![256, 128]⟩
abbrev S_ : Shape := ⟨0, ![]⟩
abbrev S10000x10000 : Shape := ⟨2, ![10000, 10000]⟩
abbrev S1x160000 : Shape := ⟨2, ![1, 160000]⟩
abbrev S160000 : Shape := ⟨1, ![160000]⟩
abbrev S160000x1 : Shape := ⟨2, ![160000, 1]⟩
abbrev S160000x2 : Shape := ⟨2, ![160000, 2]⟩
abbrev S10000 : Shape := ⟨1, ![10000]⟩
abbrev S10000x1 : Shape := ⟨2, ![10000, 1]⟩
abbrev S1x10000 : Shape := ⟨2, ![1, 10000]⟩
abbrev S1x128 : Shape := ⟨2, ![1, 128]⟩
abbrev S5000 : Shape := ⟨1, ![5000]⟩
abbrev S5000x128 : Shape := ⟨2, ![5000, 128]⟩
abbrev S5000x1 : Shape := ⟨2, ![5000, 1]⟩
abbrev S10000x256 : Shape := ⟨2, ![10000, 256]⟩

abbrev nBuf : Space → Nat
  | .hbm => 171
  | .vmem => 0
  | .smem => 0
  | _ => 0

abbrev hbmTy0_0 (i : Nat) : BufTy := match i % 128 with
  | 0 => ⟨S10000x128, .f32⟩
  | 1 => ⟨S5120x128, .f32⟩
  | 2 => ⟨S5120, .i32⟩
  | 3 => ⟨S2x160000, .i32⟩
  | 4 => ⟨S128x128, .f32⟩
  | 5 => ⟨S128, .f32⟩
  | 6 => ⟨S256x128, .f32⟩
  | 7 => ⟨S128, .f32⟩
  | 8 => ⟨S_, .f32⟩
  | 9 => ⟨S10000x10000, .f32⟩
  | 10 => ⟨S1x160000, .i32⟩
  | 11 => ⟨S160000, .i32⟩
  | 12 => ⟨S1x160000, .i32⟩
  | 13 => ⟨S160000, .i32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000x1, .i32⟩
  | 30 => ⟨S160000x2, .i32⟩
  | 31 => ⟨S_, .f32⟩
  | 32 => ⟨S160000, .f32⟩
  | 33 => ⟨S10000x10000, .f32⟩
  | 34 => ⟨S10000x10000, .i32⟩
  | 35 => ⟨S10000x10000, .i32⟩
  | 36 => ⟨S_, .i32⟩
  | 37 => ⟨S10000x10000, .i32⟩
  | 38 => ⟨S10000x10000, .i32⟩
  | 39 => ⟨S10000x10000, .i1⟩
  | 40 => ⟨S_, .f32⟩
  | 41 => ⟨S_, .f32⟩
  | 42 => ⟨S10000x10000, .f32⟩
  | 43 => ⟨S10000x10000, .f32⟩
  | 44 => ⟨S_, .f32⟩
  | 45 => ⟨S10000, .f32⟩
  | 46 => ⟨S_, .f32⟩
  | 47 => ⟨S10000, .f32⟩
  | 48 => ⟨S10000, .i1⟩
  | 49 => ⟨S_, .f32⟩
  | 50 => ⟨S_, .f32⟩
  | 51 => ⟨S10000, .f32⟩
  | 52 => ⟨S10000, .f32⟩
  | 53 => ⟨S10000, .f32⟩
  | 54 => ⟨S_, .f32⟩
  | 55 => ⟨S10000, .f32⟩
  | 56 => ⟨S10000x10000, .i32⟩
  | 57 => ⟨S10000x10000, .i32⟩
  | 58 => ⟨S_, .i32⟩
  | 59 => ⟨S10000x10000, .i32⟩
  | 60 => ⟨S10000x10000, .i32⟩
  | 61 => ⟨S10000x10000, .i1⟩
  | 62 => ⟨S10000x1, .f32⟩
  | 63 => ⟨S_, .f32⟩
  | 64 => ⟨S10000x10000, .f32⟩
  | 65 => ⟨S10000x10000, .f32⟩
  | 66 => ⟨S10000x10000, .f32⟩
  | 67 => ⟨S10000x10000, .f32⟩
  | 68 => ⟨S10000x10000, .f32⟩
  | 69 => ⟨S_, .f32⟩
  | 70 => ⟨S10000, .f32⟩
  | 71 => ⟨S_, .f32⟩
  | 72 => ⟨S10000, .f32⟩
  | 73 => ⟨S10000, .i1⟩
  | 74 => ⟨S10000, .f32⟩
  | 75 => ⟨S_, .f32⟩
  | 76 => ⟨S10000, .f32⟩
  | 77 => ⟨S10000, .f32⟩
  | 78 => ⟨S_, .f32⟩
  | 79 => ⟨S_, .f32⟩
  | 80 => ⟨S10000, .f32⟩
  | 81 => ⟨S10000, .f32⟩
  | 82 => ⟨S10000x1, .f32⟩
  | 83 => ⟨S10000x10000, .f32⟩
  | 84 => ⟨S10000x10000, .f32⟩
  | 85 => ⟨S1x10000, .f32⟩
  | 86 => ⟨S10000x10000, .f32⟩
  | 87 => ⟨S10000x10000, .f32⟩
  | 88 => ⟨S10000x10000, .f32⟩
  | 89 => ⟨S10000x128, .f32⟩
  | 90 => ⟨S10000x128, .f32⟩
  | 91 => ⟨S1x128, .f32⟩
  | 92 => ⟨S10000x128, .f32⟩
  | 93 => ⟨S10000x128, .f32⟩
  | 94 => ⟨S_, .f32⟩
  | 95 => ⟨S10000x128, .f32⟩
  | 96 => ⟨S10000x128, .f32⟩
  | 97 => ⟨S_, .f32⟩
  | 98 => ⟨S10000x128, .f32⟩
  | 99 => ⟨S5000, .i32⟩
  | 100 => ⟨S5000x128, .f32⟩
  | 101 => ⟨S_, .i32⟩
  | 102 => ⟨S5000, .i32⟩
  | 103 => ⟨S5000, .i1⟩
  | 104 => ⟨S_, .i32⟩
  | 105 => ⟨S5000, .i32⟩
  | 106 => ⟨S5000, .i32⟩
  | 107 => ⟨S5000, .i32⟩
  | 108 => ⟨S5000x1, .i32⟩
  | 109 => ⟨S10000x128, .f32⟩
  | 110 => ⟨S10000x256, .f32⟩
  | 111 => ⟨S10000x10000, .i32⟩
  | 112 => ⟨S10000x10000, .i32⟩
  | 113 => ⟨S_, .i32⟩
  | 114 => ⟨S10000x10000, .i32⟩
  | 115 => ⟨S10000x10000, .i32⟩
  | 116 => ⟨S10000x10000, .i1⟩
  | 117 => ⟨S_, .f32⟩
  | 118 => ⟨S_, .f32⟩
  | 119 => ⟨S10000x10000, .f32⟩
  | 120 => ⟨S10000x10000, .f32⟩
  | 121 => ⟨S_, .f32⟩
  | 122 => ⟨S10000, .f32⟩
  | 123 => ⟨S_, .f32⟩
  | 124 => ⟨S10000, .f32⟩
  | 125 => ⟨S10000, .i1⟩
  | 126 => ⟨S_, .f32⟩
  | 127 => ⟨S_, .f32⟩
  | _ => ⟨S10000x128, .f32⟩

abbrev hbmTy0_1 (i : Nat) : BufTy := match i % 128 with
  | 0 => ⟨S10000, .f32⟩
  | 1 => ⟨S10000, .f32⟩
  | 2 => ⟨S10000, .f32⟩
  | 3 => ⟨S_, .f32⟩
  | 4 => ⟨S10000, .f32⟩
  | 5 => ⟨S10000x10000, .i32⟩
  | 6 => ⟨S10000x10000, .i32⟩
  | 7 => ⟨S_, .i32⟩
  | 8 => ⟨S10000x10000, .i32⟩
  | 9 => ⟨S10000x10000, .i32⟩
  | 10 => ⟨S10000x10000, .i1⟩
  | 11 => ⟨S10000x1, .f32⟩
  | 12 => ⟨S_, .f32⟩
  | 13 => ⟨S10000x10000, .f32⟩
  | 14 => ⟨S10000x10000, .f32⟩
  | 15 => ⟨S10000x10000, .f32⟩
  | 16 => ⟨S10000x10000, .f32⟩
  | 17 => ⟨S10000x10000, .f32⟩
  | 18 => ⟨S_, .f32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S10000, .f32⟩
  | 26 => ⟨S10000, .f32⟩
  | 27 => ⟨S_, .f32⟩
  | 28 => ⟨S_, .f32⟩
  | 29 => ⟨S10000, .f32⟩
  | 30 => ⟨S10000, .f32⟩
  | 31 => ⟨S10000x1, .f32⟩
  | 32 => ⟨S10000x10000, .f32⟩
  | 33 => ⟨S10000x10000, .f32⟩
  | 34 => ⟨S1x10000, .f32⟩
  | 35 => ⟨S10000x10000, .f32⟩
  | 36 => ⟨S10000x10000, .f32⟩
  | 37 => ⟨S10000x10000, .f32⟩
  | 38 => ⟨S10000x128, .f32⟩
  | 39 => ⟨S10000x128, .f32⟩
  | 40 => ⟨S1x128, .f32⟩
  | 41 => ⟨S10000x128, .f32⟩
  | 42 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_cst_9 : Ref sig .tc := ⟨.hbm, 50, rfl⟩
abbrev main_call1_v0 : Ref sig .tc := ⟨.hbm, 51, rfl⟩
abbrev main_call1_v1 : Ref sig .tc := ⟨.hbm, 52, rfl⟩
abbrev main_v29 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_c : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_0 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_10 : Ref sig .tc := ⟨.hbm, 69, rfl⟩
abbrev main_v33 : Ref sig .tc := ⟨.hbm, 70, rfl⟩
abbrev main_cst_11 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_12 : Ref sig .tc := ⟨.hbm, 75, rfl⟩
abbrev main_v37 : Ref sig .tc := ⟨.hbm, 76, rfl⟩
abbrev main_v38 : Ref sig .tc := ⟨.hbm, 77, rfl⟩
abbrev main_cst_13 : Ref sig .tc := ⟨.hbm, 78, rfl⟩
abbrev main_call3_v0 : Ref sig .tc := ⟨.hbm, 79, rfl⟩
abbrev main_call3_v1 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_call4_cst : Ref sig .tc := ⟨.hbm, 94, rfl⟩
abbrev main_call4_v0 : Ref sig .tc := ⟨.hbm, 95, rfl⟩
abbrev main_v52 : Ref sig .tc := ⟨.hbm, 96, rfl⟩
abbrev main_cst_14 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_15 : Ref sig .tc := ⟨.hbm, 101, rfl⟩
abbrev main_v56 : Ref sig .tc := ⟨.hbm, 102, rfl⟩
abbrev main_v57 : Ref sig .tc := ⟨.hbm, 103, rfl⟩
abbrev main_c_16 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_17 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_18 : Ref sig .tc := ⟨.hbm, 117, rfl⟩
abbrev main_call5_v0 : Ref sig .tc := ⟨.hbm, 118, rfl⟩
abbrev main_call5_v1 : Ref sig .tc := ⟨.hbm, 119, rfl⟩
abbrev main_v69 : Ref sig .tc := ⟨.hbm, 120, rfl⟩
abbrev main_cst_19 : Ref sig .tc := ⟨.hbm, 121, rfl⟩
abbrev main_v70 : Ref sig .tc := ⟨.hbm, 122, rfl⟩
abbrev main_cst_20 : Ref sig .tc := ⟨.hbm, 123, rfl⟩
abbrev main_v71 : Ref sig .tc := ⟨.hbm, 124, rfl⟩
abbrev main_v72 : Ref sig .tc := ⟨.hbm, 125, rfl⟩
abbrev main_cst_21 : Ref sig .tc := ⟨.hbm, 126, rfl⟩
abbrev main_cst_22 : Ref sig .tc := ⟨.hbm, 127, rfl⟩
abbrev main_call6_v0 : Ref sig .tc := ⟨.hbm, 128, rfl⟩
abbrev main_call6_v1 : Ref sig .tc := ⟨.hbm, 129, rfl⟩
abbrev main_v73 : Ref sig .tc := ⟨.hbm, 130, rfl⟩
abbrev main_call7_cst : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_c : Ref sig .tc := ⟨.hbm, 135, rfl⟩
abbrev main_call7_v3 : Ref sig .tc := ⟨.hbm, 136, rfl⟩
abbrev main_call7_v4 : Ref sig .tc := ⟨.hbm, 137, rfl⟩
abbrev main_call7_v5 : Ref sig .tc := ⟨.hbm, 138, rfl⟩
abbrev main_call7_v6 : Ref sig .tc := ⟨.hbm, 139, rfl⟩
abbrev main_call7_cst_0 : Ref sig .tc := ⟨.hbm, 140, rfl⟩
abbrev main_call7_call0_v0 : Ref sig .tc := ⟨.hbm, 141, rfl⟩
abbrev main_call7_call0_v1 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_23 : Ref sig .tc := ⟨.hbm, 146, rfl⟩
abbrev main_v77 : Ref sig .tc := ⟨.hbm, 147, rfl⟩
abbrev main_cst_24 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_cst_25 : Ref sig .tc := ⟨.hbm, 152, rfl⟩
abbrev main_v81 : Ref sig .tc := ⟨.hbm, 153, rfl⟩
abbrev main_v82 : Ref sig .tc := ⟨.hbm, 154, rfl⟩
abbrev main_cst_26 : Ref sig .tc := ⟨.hbm, 155, rfl⟩
abbrev main_call8_v0 : Ref sig .tc := ⟨.hbm, 156, rfl⟩
abbrev main_call8_v1 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩

abbrev nD : Nat := 1
abbrev τ : Topo := Topo.v7x

variable {F : FTy → Type} [FloatOps F]
-- ==== Proof.Place.lean ====
/- Where the updates of a scatter land and what a gather takes, for the index layouts of this kernel and its reference,
   at any extents; and an accumulating scatter, read at one element as a sum over its updates. -/
module

public import Idealize.ShloMosaic.Lib.Routing.OpsSet
public import Idealize.ShloMosaic.Lib.Routing.OpsPair
public import Idealize.ShloMosaic.Lib.Pipeline.ValueKit

@[expose] public section

noncomputable section

namespace Cert.Place

open Idealize.ShloMosaic Idealize.ShloMosaic.Routing

/-- A scatter of `E` scalars into a matrix, two index words each. -/
abbrev pairs (R C E : ℕ) (wf : ScatterDims.WF (shape2 R C) (shape2 E 2) (shape1 E) [] [0, 1] [0, 1] 1) :
    ScatterDims (shape2 R C) (shape2 E 2) (shape1 E) := ⟨[], [0, 1], [0, 1], 1, wf⟩

/-- A scatter of `E` scalars into a vector, one index word each. -/
abbrev singles (N E : ℕ) (wf : ScatterDims.WF (shape1 N) (shape2 E 1) (shape1 E) [] [0] [0] 1) :
    ScatterDims (shape1 N) (shape2 E 1) (shape1 E) := ⟨[], [0], [0], 1, wf⟩

/-- Update `e` lands at row `r`, column `c` exactly when its two words, read signed, are `r` and `c`. -/
theorem lands_pair {R C E : ℕ} (wf) (idx : IVec (shape2 E 2) 32) (e : Fin E) (r : Fin R) (c : Fin C) :
    (pairs R C E wf).resultIdx? (ix1 e) idx = some (ix2 r c)
      ↔ (idx (ix2 e (0 : Fin 2))).toInt = r.val ∧ (idx (ix2 e (1 : Fin 2))).toInt = c.val := by
  have start : ∀ q : Fin 2, (pairs R C E wf).start (ix1 e) idx q = (idx (ix2 e q)).toInt := by
    intro q
    fin_cases q
    · refine congrArg (fun i => (idx i).toInt) (funext fun a => ?_)
      fin_cases a <;> rfl
    · refine congrArg (fun i => (idx i).toInt) (funext fun a => ?_)
      fin_cases a <;> rfl
  have window : ∀ q : Fin 2, (pairs R C E wf).window (ix1 e) q = 0 := by
    intro q
    fin_cases q <;> rfl
  refine (resultIdx?_ix2 _ _ idx r c).trans ?_
  rw [start, start, window, window]
  simp

/-- Update `e` lands at entry `x` exactly when its word, read signed, is `x`. -/
theorem lands_single {N E : ℕ} (wf) (idx : IVec (shape2 E 1) 32) (e : Fin E) (x : Fin N) :
    (singles N E wf).resultIdx? (ix1 e) idx = some (ix1 x) ↔ (idx (ix2 e (0 : Fin 1))).toInt = x.val := by
  have start : (singles N E wf).start (ix1 e) idx 0 = (idx (ix2 e (0 : Fin 1))).toInt := by
    refine congrArg (fun i => (idx i).toInt) (funext fun a => ?_)
    fin_cases a <;> rfl
  have window : (singles N E wf).window (ix1 e) 0 = 0 := rfl
  refine (resultIdx?_ix1 _ _ idx x).trans ?_
  rw [start, window]
  simp

/-- An accumulating scatter of scalars by two index words, at row `r`, column `c`: the operand's element and the sum of
    the updates whose words name the place. -/
theorem added_at {R C E : ℕ} (wf) (x : (shape2 R C).Idx → EReal) (idx : IVec (shape2 E 2) 32) (u : (shape1 E).Idx → EReal)
    (r : Fin R) (c : Fin C) :
    Ideal.hostScatterAdd (pairs R C E wf) x idx u (ix2 r c)
      = x (ix2 r c) + ∑ e : Fin E, if (idx (ix2 e (0 : Fin 2))).toInt = r.val ∧ (idx (ix2 e (1 : Fin 2))).toInt = c.val
          then u (ix1 e) else 0 := by
  unfold Ideal.hostScatterAdd
  congr 1
  rw [Finset.sum_filter, sum_idx1]
  refine Finset.sum_congr rfl fun e _ => ?_
  simp only [lands_pair]

/-- A scatter that sets scalars by one index word each, at an entry that update `e` alone names. -/
theorem set_at {N E : ℕ} (wf) (x : IVec (shape1 N) 32) (idx : IVec (shape2 E 1) 32) (u : IVec (shape1 E) 32) (y : Fin N) (e : Fin E)
    (he : (idx (ix2 e (0 : Fin 1))).toInt = y.val) (hu : ∀ e' : Fin E, (idx (ix2 e' (0 : Fin 1))).toInt = y.val → e' = e) :
    Host.scatter (singles N E wf) (fun _ b => b) x idx u (ix1 y) = u (ix1 e) := by
  refine scatter_set_hit _ x idx u _ _ (fun k hk => ?_) (ix1 e) ((lands_single wf idx e y).2 he)
  obtain ⟨e', rfl⟩ : ∃ e' : Fin E, k = ix1 e' := ⟨k 0, eq_ix1 k⟩
  rw [hu e' ((lands_single wf idx e' y).1 hk)]

/-- … and at an entry that no update names: the operand's. -/
theorem set_miss {N E : ℕ} (wf) (x : IVec (shape1 N) 32) (idx : IVec (shape2 E 1) 32) (u : IVec (shape1 E) 32) (y : Fin N)
    (h : ∀ e' : Fin E, (idx (ix2 e' (0 : Fin 1))).toInt ≠ y.val) :
    Host.scatter (singles N E wf) (fun _ b => b) x idx u (ix1 y) = x (ix1 y) := by
  refine scatter_set_miss _ x idx u _ fun k hk => ?_
  obtain ⟨e', rfl⟩ : ∃ e' : Fin E, k = ix1 e' := ⟨k 0, eq_ix1 k⟩
  exact h e' ((lands_single wf idx e' y).1 hk)

/-- Columns taken from a matrix: where the index word of column `p` is `b`, the result's column `p` is the matrix's column `b`. -/
theorem column_taken {α : Type} {R N n : ℕ} (wf) (x : (shape2 R N).Idx → α) (idx : IVec (shape2 n 1) 32) (r : Fin R) (p : Fin n) (b : Fin N)
    (hb : (idx (ix2 p (0 : Fin 1))).toInt = b.val) :
    Host.gather (⟨[0], [1], [], [], [1], 1, ![R, 1], wf⟩ : GatherDims (shape2 R N) (shape2 n 1) (shape2 R n)) x idx (ix2 r p) = x (ix2 r b) := by
  unfold Host.gather
  have hlt := b.isLt
  refine congrArg x (funext fun a => Fin.ext ?_)
  fin_cases a
  · show 0 + 0 + r.val = r.val
    omega
  · have hsi : ∀ h, GatherDims.siIdx (⟨[0], [1], [], [], [1], 1, ![R, 1], wf⟩ : GatherDims (shape2 R N) (shape2 n 1) (shape2 R n)) (ix2 r p) ⟨0, h⟩
        = ix2 p (0 : Fin 1) := fun h => funext fun q => by fin_cases q <;> rfl
    have key : min (idx (GatherDims.siIdx (⟨[0], [1], [], [], [1], 1, ![R, 1], wf⟩ : GatherDims (shape2 R N) (shape2 n 1) (shape2 R n)) (ix2 r p) ⟨0, Nat.one_pos⟩)).toInt.toNat
        (N - 1) + 0 + 0 = b.val := by
      rw [hsi, hb]
      omega
    exact key

/-- A word that reads, signed, as a natural number is that number's word. -/
theorem word_of_toInt (w : BitVec 32) (k : ℕ) (h : w.toInt = (k : ℤ)) : w = BitVec.ofNat 32 k := by
  rw [← BitVec.ofInt_toInt (x := w), h, BitVec.ofInt_natCast]

/-- Entries taken from a vector: where the index word of entry `p` is `b`, the result's entry `p` is the vector's entry `b`. -/
theorem entry_taken {α : Type} {N n : ℕ} (d : GatherDims (shape1 N) (shape2 n 1) (shape1 n)) (hcoll : d.collapsedSliceDims = [0])
    (hob : d.operandBatchingDims = []) (hsim : d.startIndexMap = [0]) (hivd : d.indexVectorDim = 1) (x : (shape1 N).Idx → α)
    (idx : IVec (shape2 n 1) 32) (p : Fin n) (b : Fin N) (hb : (idx (ix2 p (0 : Fin 1))).toInt = b.val) (hN : N < 2 ^ 31) :
    Host.gather d x idx (ix1 p) = x (ix1 b) :=
  gather_take1 d hcoll hob hsim hivd x idx p b (word_of_toInt _ _ hb) hN

/-- Rows taken from a matrix: where the index word of row `p` is `b`, the result's row `p` is the matrix's row `b`. -/
theorem row_taken {α : Type} {nb B n : ℕ} (d : GatherDims (shape2 nb B) (shape2 n 1) (shape2 n B)) (hoff : d.offsetDims = [1])
    (hcoll : d.collapsedSliceDims = [0]) (hob : d.operandBatchingDims = []) (hsim : d.startIndexMap = [0]) (hivd : d.indexVectorDim = 1)
    (x : (shape2 nb B).Idx → α) (idx : IVec (shape2 n 1) 32) (p : Fin n) (y : Fin B) (b : Fin nb)
    (hb : (idx (ix2 p (0 : Fin 1))).toInt = b.val) (hnb : nb < 2 ^ 31) :
    Host.gather d x idx (ix2 p y) = x (ix2 b y) :=
  gather_row d hoff hcoll hob hsim hivd x idx p y b (word_of_toInt _ _ hb) hnb

/-- An index word that is not negative is left as it is where negative ones would be counted from the end. -/
theorem not_wrapped (w k : BitVec 32) (b : ℕ) (h : w.toInt = (b : ℤ)) :
    Scalar.select (IntOp.cmpi .slt w 0#32) (IntOp.addi w k) w = w := by
  rw [WordCmp.cmpi_slt_eq, WordCmp.ofBool_decide_eq_ite, if_neg (by rw [h]; simp), WordCmp.select_of_eq_zero rfl]

/-- A value with zero in its place where two row numbers, each a block's first row and a row of the block, are the same. -/
theorem zero_where_same (w i r j c : ℕ) (v : EReal) (hi : i * w + r < 2 ^ 32) (hj : j * w + c < 2 ^ 32) :
    Scalar.select (IntOp.cmpi .eq (IntOp.addi (Scalar.muli (BitVec.ofNat 32 i) (BitVec.ofNat 32 w)) (BitVec.ofNat 32 r))
      (IntOp.addi (Scalar.muli (BitVec.ofNat 32 j) (BitVec.ofNat 32 w)) (BitVec.ofNat 32 c))) 0 v = if i * w + r = j * w + c then 0 else v := by
  have e : ∀ a b : ℕ, IntOp.addi (Scalar.muli (BitVec.ofNat 32 a) (BitVec.ofNat 32 w)) (BitVec.ofNat 32 b) = BitVec.ofNat 32 (a * w + b) := fun a b => by
    show IntOp.addi (IntOp.muli (BitVec.ofNat 32 a) (BitVec.ofNat 32 w)) _ = _
    rw [WordCmp.muli_ofNat, WordCmp.addi_ofNat]
  have n : BitVec.ofNat 32 (i * w + r) = BitVec.ofNat 32 (j * w + c) ↔ i * w + r = j * w + c := by
    rw [← BitVec.toNat_inj, BitVec.toNat_ofNat, BitVec.toNat_ofNat, Nat.mod_eq_of_lt hi, Nat.mod_eq_of_lt hj]
  rw [e, e, WordCmp.cmpi_eq_eq, WordCmp.ofBool_decide_eq_ite]
  by_cases q : i * w + r = j * w + c
  · rw [if_pos (n.2 q), if_pos q, WordCmp.select_of_eq_one rfl]
  · rw [if_neg fun k => q (n.1 k), if_neg q, WordCmp.select_of_eq_zero rfl]

/-- Whether a row's number is a column's, as a one or a zero. -/
theorem one_where_same (r k : ℕ) (hr : r < 2 ^ 32) (hk : k < 2 ^ 32) :
    (((IntOp.cmpi .eq (IntOp.addi (BitVec.ofNat 32 r) (BitVec.ofNat 32 0)) (BitVec.ofNat 32 k)).toNat : ℝ) : EReal) = if r = k then 1 else 0 := by
  have n : BitVec.ofNat 32 r = BitVec.ofNat 32 k ↔ r = k := by
    rw [← BitVec.toNat_inj, BitVec.toNat_ofNat, BitVec.toNat_ofNat, Nat.mod_eq_of_lt hr, Nat.mod_eq_of_lt hk]
  rw [WordCmp.addi_ofNat, add_zero, WordCmp.cmpi_eq_eq, WordCmp.ofBool_decide_eq_ite]
  by_cases q : r = k
  · rw [if_pos (n.2 q), if_pos q]
    norm_num
  · rw [if_neg fun h => q (n.1 h), if_neg q]
    norm_num

/-- Two comparisons that both hold bound a word. -/
theorem within (w lo hi : BitVec 32) (h : IntOp.andi (IntOp.cmpi .sge w lo) (IntOp.cmpi .slt w hi) = 1#1) :
    lo.toInt ≤ w.toInt ∧ w.toInt < hi.toInt := by
  rw [WordCmp.cmpi_sge_eq, WordCmp.cmpi_slt_eq] at h
  have bits : ∀ a b : Bool, IntOp.andi (BitVec.ofBool a) (BitVec.ofBool b) = 1#1 → a = true ∧ b = true := by decide
  obtain ⟨a, b⟩ := bits _ _ h
  exact ⟨of_decide_eq_true a, of_decide_eq_true b⟩

/-- Words that differ wherever their places do stand, where they are equal, at the same place. -/
theorem same_of_apart (v w : BitVec 32) (i j : ℕ) (q : v = w) (hi : i < 2 ^ 32) (hj : j < 2 ^ 32)
    (h : IntOp.ori (IntOp.cmpi .ne v w) (IntOp.cmpi .eq (BitVec.ofNat 32 i) (BitVec.ofNat 32 j)) = 1#1) : i = j := by
  rw [q, WordCmp.cmpi_ne_eq, decide_eq_false (by simp)] at h
  by_contra hne
  rw [(WordCmp.cmpi_eq_ofNat_eq_zero_iff hi hj).2 hne] at h
  exact absurd h (by decide)

/-- The edges that go from node `x` to node `n`, counted where the two differ, and one where they are the same. -/
def links (u v : Fin 160000 → Fin 10000) (x n : ℕ) : EReal :=
  (∑ e : Fin 160000, if (u e).val ≠ (v e).val ∧ (u e).val = x ∧ (v e).val = n then (1 : EReal) else 0) + if x = n then 1 else 0

end Cert.Place

end
-- ==== Proof.Blocked.lean ====
/- A product taken block by block, at any number of blocks and any block sizes: the grid visits column block, row block and
   contraction step in turn, an accumulator is carried over the steps of one block, the finished block has its diagonal
   cleared, and a row of column sums is carried over the row blocks. -/
module

public import Idealize.ShloMosaic.Lib.Pipeline.ValueKit

@[expose] public section

noncomputable section

namespace Cert.Blocked

open Idealize.ShloMosaic

variable {d w k A K N : ℕ}

/-- Row `a` of the left array times row `b` of the right one, nothing on the diagonal. -/
def entry (L R : Fin A → Fin K → EReal) (a b : Fin A) : EReal := if a = b then 0 else ∑ n : Fin K, L a n * R b n

/-- What a blocked product of `L` and `R` keeps point by point: `d` blocks of `w` rows and of `w` columns, `d` steps of `k`.
    At point `t` the left block is `x t`, the right one `y t`; after it the accumulator is `acc t`, the finished block would
    be `done t`, and the row of column sums is `row t`. -/
structure Run (d w k : ℕ) (L R : Fin A → Fin K → EReal) (x y : (t : ℕ) → t < N → Fin w → Fin k → EReal)
    (acc done : (t : ℕ) → t < N → Fin w → Fin w → EReal) (row : (t : ℕ) → t < N → Fin w → EReal) : Prop where
  points : N = d * d * d
  rows : A = d * w
  steps : K = d * k
  several : 1 < d
  left : ∀ t h r s a n, a.val = t / d % d * w + r.val → n.val = t % d * k + s.val → x t h r s = L a n
  right : ∀ t h c s b n, b.val = t / (d * d) * w + c.val → n.val = t % d * k + s.val → y t h c s = R b n
  reset : ∀ t h r c, t % d = 0 → acc t h r c = 0 + ∑ s : Fin k, x t h r s * y t h c s
  step : ∀ t h r c, ¬t % d = 0 →
    acc t h r c = acc (t - 1) (Nat.lt_of_le_of_lt (Nat.sub_le _ _) h) r c + ∑ s : Fin k, x t h r s * y t h c s
  cleared : ∀ t h r c, done t h r c = if t / d % d * w + r.val = t / (d * d) * w + c.val then 0 else acc t h r c
  row_first : ∀ t h c, t % d = d - 1 → t / d % d = 0 → row t h c = 0 + ∑ r, done t h r c
  row_next : ∀ t h c, t % d = d - 1 → ¬t / d % d = 0 →
    row t h c = row (t - 1) (Nat.lt_of_le_of_lt (Nat.sub_le _ _) h) c + ∑ r, done t h r c
  row_kept : ∀ t h c, ¬t % d = d - 1 → row t h c = row (t - 1) (Nat.lt_of_le_of_lt (Nat.sub_le _ _) h) c

/-- The place of step `s` of block `n`. -/
theorem place (n s : ℕ) (hs : s < d) : (d * n + s) % d = s ∧ (d * n + s) / d = n := by
  have hd : 0 < d := by omega
  exact ⟨by rw [Nat.mul_add_mod, Nat.mod_eq_of_lt hs], by rw [Nat.mul_add_div hd, Nat.div_eq_of_lt hs, add_zero]⟩

namespace Run

variable {L R : Fin A → Fin K → EReal} {x y : (t : ℕ) → t < N → Fin w → Fin k → EReal}
  {acc done : (t : ℕ) → t < N → Fin w → Fin w → EReal} {row : (t : ℕ) → t < N → Fin w → EReal}
  (H : Run d w k L R x y acc done row)
include H

/-- The accumulator at a block's last step is the whole contraction. -/
theorem contracted (t : ℕ) (h : t < N) (e : t % d = d - 1) (r c : Fin w) (a b : Fin A)
    (ha : a.val = t / d % d * w + r.val) (hb : b.val = t / (d * d) * w + c.val) :
    acc t h r c = ∑ n : Fin K, L a n * R b n := by
  haveI : NeZero d := ⟨by have := H.several; omega⟩
  have total := Pipeline.eq_sum_fin_of_reset_step_apply_of_flush (fun t h (j : Fin w × Fin w) => acc t h j.1 j.2) d (fun _ => (0 : EReal))
    (fun t j => ∑ s : Fin k, x t.val t.isLt j.1 s * y t.val t.isLt j.2 s) (fun t h j => H.reset t.val t.isLt j.1 j.2 h)
    (fun t h j => H.step t.val t.isLt j.1 j.2 h) ⟨t, h⟩ e (r, c)
  refine total.trans ((zero_add _).trans (Fin.sum_mul_add_congr (fun s q hl => ?_) H.steps))
  obtain ⟨p1, p2⟩ := place (d := d) (t / d) s.val s.isLt
  have p3 : (d * (t / d) + s.val) / (d * d) = t / (d * d) := by rw [← Nat.div_div_eq_div_mul, p2, Nat.div_div_eq_div_mul]
  refine congrArg₂ (· * ·) (H.left _ _ r q a ⟨s.val * k + q.val, hl⟩ ?_ ?_) (H.right _ _ c q b ⟨s.val * k + q.val, hl⟩ ?_ ?_)
  · rw [p2]; exact ha
  · rw [p1]
  · rw [p3]; exact hb
  · rw [p1]

/-- The finished block at its last step. -/
theorem finished (t : ℕ) (h : t < N) (e : t % d = d - 1) (r c : Fin w) (a b : Fin A)
    (ha : a.val = t / d % d * w + r.val) (hb : b.val = t / (d * d) * w + c.val) : done t h r c = entry L R a b := by
  rw [H.cleared, H.contracted t h e r c a b ha hb, ← ha, ← hb]
  unfold entry
  exact if_congr Fin.ext_iff.symm rfl rfl

/-- The last step of block `n` is a point. -/
theorem last_lt {n : ℕ} (h : n < d * d) : d * n + (d - 1) < N := by
  have h1 := H.several
  rw [H.points]
  calc d * n + (d - 1) < d * (n + 1) := by rw [Nat.mul_succ]; omega
    _ ≤ d * (d * d) := Nat.mul_le_mul_left d h
    _ = d * d * d := Nat.mul_comm _ _

/-- Before a block's last step the row is what the block before left. -/
theorem row_before (n : ℕ) (hn : n + 1 < d * d) (c : Fin w) : ∀ (s : ℕ) (_ : s < d - 1) (h : d * (n + 1) + s < N),
    row (d * (n + 1) + s) h c = row (d * n + (d - 1)) (H.last_lt (Nat.lt_of_succ_lt hn)) c := by
  have same : ∀ p q hp hq, p = q → row p hp c = row q hq c := by
    rintro p q hp hq rfl
    rfl
  have h1 := H.several
  intro s
  induction s with
  | zero =>
    intro hs h
    refine (H.row_kept _ h c (by rw [(place (d := d) (n + 1) 0 (by omega)).1]; omega)).trans (same _ _ _ _ ?_)
    rw [Nat.mul_succ]
    omega
  | succ s ih =>
    intro hs h
    refine (H.row_kept _ h c (by rw [(place (d := d) (n + 1) (s + 1) (by omega)).1]; omega)).trans ?_
    exact (same _ _ _ (by omega) (by omega)).trans (ih (by omega) (by omega))

/-- The row at the last step of a column's last block: the column sums of the whole product. -/
theorem row_total (t : ℕ) (h : t < N) (e : t % d = d - 1) (e' : t / d % d = d - 1) (c : Fin w) (b : Fin A)
    (hb : b.val = t / (d * d) * w + c.val) : row t h c = ∑ a : Fin A, entry L R a b := by
  have h1 := H.several
  haveI : NeZero d := ⟨by omega⟩
  have same : ∀ p q hp hq, p = q → row p hp c = row q hq c := by
    rintro p q hp hq rfl
    rfl
  have hn : t / d < d * d := by
    rw [Nat.div_lt_iff_lt_mul (by omega)]
    exact lt_of_lt_of_eq h H.points
  have split : t = d * (t / d) + (d - 1) := by
    have := Nat.div_add_mod t d
    omega
  have at_ : ∀ n : Fin (d * d), (d * n.val + (d - 1)) % d = d - 1 ∧ (d * n.val + (d - 1)) / d = n.val := fun n =>
    place n.val (d - 1) (by omega)
  have total := Pipeline.eq_sum_fin_of_reset_step_apply_of_flush (fun n hn (_ : Unit) => row (d * n + (d - 1)) (H.last_lt hn) c) d (fun _ => (0 : EReal))
    (fun n _ => ∑ r, done (d * n.val + (d - 1)) (H.last_lt n.isLt) r c)
    (fun n q _ => H.row_first _ _ c (at_ n).1 (by rw [(at_ n).2]; exact q))
    (fun n q _ => by
      refine (H.row_next _ _ c (at_ n).1 (by rw [(at_ n).2]; exact q)).trans (congrArg (· + _) ?_)
      obtain ⟨n, hn⟩ := n
      cases n with
      | zero => exact absurd (Nat.zero_mod d) q
      | succ n =>
        refine Eq.trans ?_ (H.row_before n hn c (d - 2) (by omega) (lt_of_le_of_lt (by omega) (H.last_lt hn)))
        exact same _ _ _ _ (by show d * (n + 1) + (d - 1) - 1 = _; omega)) ⟨t / d, hn⟩ e' ()
  refine (same _ _ _ (H.last_lt hn) split).trans (total.trans ((zero_add _).trans (Fin.sum_mul_add_congr (fun s r hl => ?_) H.rows)))
  obtain ⟨p1, p2⟩ := place (d := d) (t / d / d) s.val s.isLt
  refine H.finished _ _ (place _ (d - 1) (by omega)).1 r c ⟨s.val * w + r.val, hl⟩ b ?_ ?_
  · rw [(place _ (d - 1) (by omega)).2, p1]
  · rw [← Nat.div_div_eq_div_mul, (place _ (d - 1) (by omega)).2, p2, Nat.div_div_eq_div_mul]
    exact hb

end Run

end Cert.Blocked

end
-- ==== Proof.Tile.lean ====
/- The body's arithmetic at an index, and what the accumulator and the three result blocks hold at the end of a run
   of ten points of the grid. -/
module

public import proofs.«01_k».proof.Proof.Gen.KernelIdeal.Value
public import proofs.«01_k».proof.Proof.Place
public import proofs.«01_k».proof.Proof.Blocked
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

/-- The block the accumulator is reset to is zero everywhere. -/
theorem zeros (j : S512x512.Idx) : k0_pay1 (F := Ideal) j = 0 := by pointwise [k0_pay1]

/-- The row the column sums start from is zero everywhere. -/
theorem zero_row (j : S1x512.Idx) : k0_pay5 (F := Ideal) j = 0 := by pointwise [k0_pay5]

/-- One point adds to the accumulator the product of the left block's rows with the right block's rows. -/
theorem step (acc : FVec Ideal S512x512 .f32) (x y : FVec Ideal S512x1024 .bf16) (j : S512x512.Idx) :
    k0_pay2 acc x y j = acc j + ∑ k : Fin 1024, x (ix2 (j 0) k) * y (ix2 (j 1) k) := by
  pointwise [k0_pay2]

/-- The finished block is the accumulator with zeros where the row's number in the matrix is the column's. -/
theorem diag_cleared (i : grid0.Coords) (acc : FVec Ideal S512x512 .f32) (j : S512x512.Idx) :
    k0_pay3 (F := Ideal) i acc j = if (i 1).val * 512 + (j 0).val = (i 0).val * 512 + (j 1).val then 0 else acc j := by
  pointwise [k0_pay3]
  have h1 : (i 1).val < 10 := (i 1).isLt
  have h0 : (i 0).val < 10 := (i 0).isLt
  have g1 : (j 1).val < 512 := (j 1).isLt
  have g0 : (j 0).val < 512 := (j 0).isLt
  exact Place.zero_where_same 512 (i 1).val (j 0).val (i 0).val (j 1).val (acc j) (by omega) (by omega)

/-- The second result's block is the first's, transposed. -/
theorem transposed (i : grid0.Coords) (acc : FVec Ideal S512x512 .f32) (j : S512x512.Idx) :
    k0_pay4 (F := Ideal) i acc j = k0_pay3 (F := Ideal) i acc (ix2 (j 1) (j 0)) := by
  pointwise [k0_pay4]

/-- The third result's row gains the column sums of the finished block. -/
theorem summed (i : grid0.Coords) (acc : FVec Ideal S512x512 .f32) (d : FVec Ideal S1x512 .f32) (j : S1x512.Idx) :
    k0_pay6 (F := Ideal) i acc d j = d j + ∑ r : Fin 512, k0_pay3 (F := Ideal) i acc (ix2 r (j 1)) := by
  pointwise [k0_pay6]

end Cert.KernelIdeal.Tile

end
-- ==== Proof.Fold.lean ====
/- The call is a blocked product of the two arrays it reads. -/
module

public import proofs.«01_k».proof.Proof.Tile

@[expose] public section

set_option maxRecDepth 16384

noncomputable section

namespace Cert.KernelIdeal.Fold

open Cert.KernelIdeal Cert.KernelIdeal.Gen Cert.KernelIdeal.Value Cert.KernelIdeal.Tile
open Idealize.ShloMosaic Idealize.ShloMosaic.TcCoe Idealize.SL.Sem

variable (m : (ℓ : Loc nD τ sig) → Buf (Elt Ideal) ℓ)

/-- The left factor's array as the call finds it. -/
abbrev left (c : Dev nD) : FVec Ideal S5120x10240 .bf16 := V m c (Pipeline.arrRef spec0 0)

/-- The right factor's array as the call finds it. -/
abbrev right (c : Dev nD) : FVec Ideal S5120x10240 .bf16 := V m c (Pipeline.arrRef spec0 1)

/-- The left factor's block at point `t`. -/
abbrev leftB (c : Dev nD) (t : Fin cfg0.N) : FVec Ideal S512x1024 .bf16 := iblk m c 0 t

/-- The right factor's block at point `t`. -/
abbrev rightB (c : Dev nD) (t : Fin cfg0.N) : FVec Ideal S512x1024 .bf16 := iblk m c 1 t

theorem coords_at : ∀ t : Fin cfg0.N, (grid0.coords t 0).val = t.val / 100 ∧ (grid0.coords t 1).val = t.val / 10 % 10 :=
  (by decide +kernel : ∀ t : Fin grid0.N, _)

theorem points (t : Fin cfg0.N) : t.val < 1000 := lt_of_lt_of_eq t.isLt N_0

theorem place_left : ∀ t : Fin cfg0.N, win0_0.index t (0 : Fin 2) = t.val / 10 % 10 ∧ win0_0.index t (1 : Fin 2) = t.val % 10 :=
  (by decide +kernel : ∀ t : Fin grid0.N, _)

theorem place_right : ∀ t : Fin cfg0.N, win0_1.index t (0 : Fin 2) = t.val / 100 ∧ win0_1.index t (1 : Fin 2) = t.val % 10 :=
  (by decide +kernel : ∀ t : Fin grid0.N, _)

/-- The left block at point `t`. -/
theorem left_block (c : Dev nD) (t : Fin cfg0.N) (r : Fin 512) (k : Fin 1024) :
    leftB m c t (ix2 r k) = left m c (ix2 ⟨t.val / 10 % 10 * 512 + r.val, by omega⟩ ⟨t.val % 10 * 1024 + k.val, by omega⟩) := by
  have h := place_left t
  show V m c (Pipeline.arrRef spec0 0) (((cfg0.win 0).blk t).view.emb (ix2 r k)) = _
  refine congrArg (V m c (Pipeline.arrRef spec0 0)) ?_
  blk_ext [h.1, h.2]

/-- The right block at point `t`. -/
theorem right_block (c : Dev nD) (t : Fin cfg0.N) (r : Fin 512) (k : Fin 1024) :
    rightB m c t (ix2 r k) = right m c (ix2 ⟨t.val / 100 * 512 + r.val, by have := points t; omega⟩ ⟨t.val % 10 * 1024 + k.val, by omega⟩) := by
  have h := place_right t
  show V m c (Pipeline.arrRef spec0 1) (((cfg0.win 1).blk t).view.emb (ix2 r k)) = _
  refine congrArg (V m c (Pipeline.arrRef spec0 1)) ?_
  blk_ext [h.1, h.2]

/-- The first result's block at the end of a run: the accumulator with the diagonal cleared. -/
theorem first_block (c : Dev nD) (t : Fin cfg0.N) (h : t.val % 10 = 9) (j : S512x512.Idx) :
    (outsAt0 m c t.val t.isLt).1 j = k0_pay3 (F := Ideal) (grid0.coords t) (outsAt0 m c t.val t.isLt).2.2.2 j := by
  by_cases h2 : t.val / 10 % 10 = 0
  · rw [outsAt0_C m c t (by omega) h h2]
    frame_out
  · rw [outsAt0_D m c t (by omega) h h2]
    frame_out

/-- The second result's block at the end of a run. -/
theorem second_block (c : Dev nD) (t : Fin cfg0.N) (h : t.val % 10 = 9) (j : S512x512.Idx) :
    (outsAt0 m c t.val t.isLt).2.1 j = k0_pay4 (F := Ideal) (grid0.coords t) (outsAt0 m c t.val t.isLt).2.2.2 j := by
  by_cases h2 : t.val / 10 % 10 = 0
  · rw [outsAt0_C m c t (by omega) h h2]
    frame_out
  · rw [outsAt0_D m c t (by omega) h h2]
    frame_out

/-- The call is a blocked product of the two arrays. -/
theorem running (c : Dev nD) : Blocked.Run (N := cfg0.N) 10 512 1024 (fun a n => left m c (ix2 a n)) (fun b n => right m c (ix2 b n))
    (fun t h r s => leftB m c ⟨t, h⟩ (ix2 r s)) (fun t h q s => rightB m c ⟨t, h⟩ (ix2 q s))
    (fun t h r q => (outsAt0 m c t h).2.2.2 (ix2 r q))
    (fun t h r q => k0_pay3 (F := Ideal) (grid0.coords ⟨t, h⟩) (outsAt0 m c t h).2.2.2 (ix2 r q))
    (fun t h q => (outsAt0 m c t h).2.2.1 (ix2 (0 : Fin 1) q)) where
  points := N_0
  rows := rfl
  steps := rfl
  several := by decide
  left t h r s a n ea en := by
    refine (left_block m c ⟨t, h⟩ r s).trans ?_
    exact congrArg₂ (fun a n => left m c (ix2 a n)) (Fin.ext ea.symm) (Fin.ext en.symm)
  right t h q s b n eb en := by
    refine (right_block m c ⟨t, h⟩ q s).trans ?_
    exact congrArg₂ (fun b n => right m c (ix2 b n)) (Fin.ext eb.symm) (Fin.ext en.symm)
  reset t h r q e := by
    rw [outsAt0_A m c ⟨t, h⟩ e (by show ¬t % 10 = 9; omega)]
    frame_out
    rw [step, zeros]
    rfl
  step t h r q e := by
    by_cases h1 : t % 10 = 9
    · by_cases h2 : t / 10 % 10 = 0
      · rw [outsAt0_C m c ⟨t, h⟩ e h1 h2]
        frame_out
        rw [step]
        exact congrArg (· + _) (congrFun (Memref.IsWhole.read_unread _ _) (ix2 r q))
      · rw [outsAt0_D m c ⟨t, h⟩ e h1 h2]
        frame_out
        rw [step]
        exact congrArg (· + _) (congrFun (Memref.IsWhole.read_unread _ _) (ix2 r q))
    · rw [outsAt0_B m c ⟨t, h⟩ e h1]
      frame_out
      rw [step]
      exact congrArg (· + _) (congrFun (Memref.IsWhole.read_unread _ _) (ix2 r q))
  cleared t h r q := by
    refine (diag_cleared _ _ _).trans ?_
    rw [(coords_at ⟨t, h⟩).1, (coords_at ⟨t, h⟩).2]
    rfl
  row_first t h q e e' := by
    rw [outsAt0_C m c ⟨t, h⟩ (by show ¬t % 10 = 0; omega) e e']
    frame_out
    rw [summed, zero_row]
    rfl
  row_next t h q e e' := by
    rw [outsAt0_D m c ⟨t, h⟩ (by show ¬t % 10 = 0; omega) e e']
    frame_out
    rw [summed]
    rfl
  row_kept t h q e := by
    by_cases h0 : t % 10 = 0
    · rw [outsAt0_A m c ⟨t, h⟩ h0 e]
      unfold out0_A_4
      rfl
    · rw [outsAt0_B m c ⟨t, h⟩ h0 e]
      unfold out0_B_4
      rfl

end Cert.KernelIdeal.Fold

end
-- ==== Proof.Arrays.lean ====
/- The three result arrays of the call, at an index, as sums over the two arrays it reads. -/
module

public import proofs.«01_k».proof.Proof.Fold

@[expose] public section

set_option maxRecDepth 16384

noncomputable section

namespace Cert.KernelIdeal.Fold

open Cert.KernelIdeal Cert.KernelIdeal.Gen Cert.KernelIdeal.Value Cert.KernelIdeal.Tile
open Idealize.ShloMosaic Idealize.ShloMosaic.TcCoe Idealize.SL.Sem

variable (m : (ℓ : Loc nD τ sig) → Buf (Elt Ideal) ℓ)

/-- Row `a` of the left array times row `b` of the right one, nothing on the diagonal. -/
abbrev entry (c : Dev nD) (a b : Fin 5120) : EReal :=
  Blocked.entry (fun a n => left m c (ix2 a n)) (fun b n => right m c (ix2 b n)) a b

/-- The first result, at an index. -/
theorem first (c : Dev nD) (a b : Fin 5120) : G2 m c (ix2 a b) = entry m c a b := by
  have ha := a.isLt
  have hb := b.isLt
  have hp : pt2Of (ix2 a b) = 10 * (a.val / 512 + 10 * (b.val / 512)) + 9 := by
    show 10 * (1 * (a.val / 512 - 0) + 10 * (b.val / 512 - 0)) + 9 = _
    omega
  have ht : pt2Of (ix2 a b) < cfg0.N := by rw [hp]; exact lt_of_lt_of_eq (by omega) N_0.symm
  unfold G2
  rw [dif_pos ht, ← outsAt0_sweep m c _ ht]
  refine (first_block m c ⟨pt2Of (ix2 a b), ht⟩ (by show pt2Of (ix2 a b) % 10 = 9; omega) _).trans ?_
  have place : loc2Of (ix2 a b) = ix2 (⟨a.val % 512, by omega⟩ : Fin 512) (⟨b.val % 512, by omega⟩ : Fin 512) := funext fun q => by
    fin_cases q <;> rfl
  rw [place]
  exact (running m c).finished (pt2Of (ix2 a b)) ht (by show pt2Of (ix2 a b) % 10 = 9; omega) ⟨a.val % 512, by omega⟩ ⟨b.val % 512, by omega⟩ a b
    (by show a.val = pt2Of (ix2 a b) / 10 % 10 * 512 + a.val % 512; omega)
    (by show b.val = pt2Of (ix2 a b) / 100 * 512 + b.val % 512; omega)

/-- The second result is the first, transposed. -/
theorem second (c : Dev nD) (a b : Fin 5120) : G3 m c (ix2 b a) = entry m c a b := by
  have ha := a.isLt
  have hb := b.isLt
  have hp : pt3Of (ix2 b a) = 10 * (a.val / 512 + 10 * (b.val / 512)) + 9 := by
    show 10 * (10 * (b.val / 512 - 0) + 1 * (a.val / 512 - 0)) + 9 = _
    omega
  have ht : pt3Of (ix2 b a) < cfg0.N := by rw [hp]; exact lt_of_lt_of_eq (by omega) N_0.symm
  unfold G3
  rw [dif_pos ht, ← outsAt0_sweep m c _ ht]
  refine (second_block m c ⟨pt3Of (ix2 b a), ht⟩ (by show pt3Of (ix2 b a) % 10 = 9; omega) _).trans ?_
  rw [transposed]
  have place : loc3Of (ix2 b a) = ix2 (⟨b.val % 512, by omega⟩ : Fin 512) (⟨a.val % 512, by omega⟩ : Fin 512) := funext fun q => by
    fin_cases q <;> rfl
  rw [place]
  exact (running m c).finished (pt3Of (ix2 b a)) ht (by show pt3Of (ix2 b a) % 10 = 9; omega) ⟨a.val % 512, by omega⟩ ⟨b.val % 512, by omega⟩ a b
    (by show a.val = pt3Of (ix2 b a) / 10 % 10 * 512 + a.val % 512; omega)
    (by show b.val = pt3Of (ix2 b a) / 100 * 512 + b.val % 512; omega)

/-- The third result: the column sums of the first. -/
theorem third (c : Dev nD) (z : Fin 1) (b : Fin 5120) : G4 m c (ix2 z b) = ∑ a : Fin 5120, entry m c a b := by
  have hb := b.isLt
  have hz := z.isLt
  have hp : pt4Of (ix2 z b) = 10 * (10 * (b.val / 512) + 9) + 9 := by
    show 100 * (10 * (z.val / 1 - 0) + 1 * (b.val / 512 - 0)) + 99 = _
    omega
  have ht : pt4Of (ix2 z b) < cfg0.N := by rw [hp]; exact lt_of_lt_of_eq (by omega) N_0.symm
  unfold G4
  rw [dif_pos ht, ← outsAt0_sweep m c _ ht]
  refine Eq.trans (congrArg (outsAt0 m c (pt4Of (ix2 z b)) ht).2.2.1 ?_) ((running m c).row_total (pt4Of (ix2 z b)) ht (by show pt4Of (ix2 z b) % 10 = 9; omega)
    (by show pt4Of (ix2 z b) / 10 % 10 = 9; omega) ⟨b.val % 512, by omega⟩ b (by show b.val = pt4Of (ix2 z b) / 100 * 512 + b.val % 512; omega))
  refine funext fun q => Fin.ext ?_
  fin_cases q
  · show z.val % 1 = 0
    omega
  · rfl

end Cert.KernelIdeal.Fold

end
-- ==== Proof.Prefix.lean ====
/- The two arrays the call reads, as one function of the selection and the two ends of the edges. -/
module

public import proofs.«01_k».proof.Proof.Gen.KernelIdeal.Frame.Runs
public import Idealize.ShloMosaic.Lib.StableHlo.ReadAt
public import Idealize.ShloMosaic.Lib.Pipeline.ValueKit

@[expose] public section

set_option maxRecDepth 16384

noncomputable section

namespace Cert.KernelIdeal.Prefix

open Cert.KernelIdeal Cert.KernelIdeal.Gen
open Idealize.ShloMosaic Idealize.ShloMosaic.TcCoe Idealize.SL.Sem

/-- The node at one end of each edge (row `r` of the edge list). -/
def endsRow (r : Fin 2) (e : IVec S2x160000 32) : IVec S160000 32 := fun i => e (ix2 r (i 0))

/-- One number for every edge. -/
def forEdges (k : BitVec 32) : IVec S160000 32 := broadcastInDim S160000 ![] bcast_S_S160000 (constantI S_ 32 k)

/-- One number for every place of the selection. -/
def forPlaces (k : BitVec 32) : IVec S5120 32 := broadcastInDim S5120 ![] bcast_S_S5120 (constantI S_ 32 k)

/-- An index counted from the end, `k` of them, where it is negative. -/
def edgeIndex (k : BitVec 32) (w : IVec S160000 32) : IVec S160000 32 :=
  select (cmpi .slt w (forEdges 0#32)) (addi w (forEdges k)) w

/-- The same for the places of the selection. -/
def placeIndex (k : BitVec 32) (w : IVec S5120 32) : IVec S5120 32 :=
  select (cmpi .slt w (forPlaces 0#32)) (addi w (forPlaces k)) w

/-- The place of each node in the selection, minus one for a node that is not in it. -/
def places (p : IVec S5120 32) : IVec S10240 32 :=
  Host.scatter scatter_S10240_S5120x1_S5120_n_0_0_1 (fun _ b => b)
    (broadcastInDim S10240 ![] bcast_S_S10240 (constantI S_ 32 4294967295#32))
    (broadcastInDim S5120x1 ![0] bcast_S5120_S5120x1_0 (placeIndex 10240#32 p)) (iotaInDim S5120 32 0)

/-- The place of each edge's end. -/
def placeOf (p : IVec S5120 32) (w : IVec S160000 32) : IVec S160000 32 :=
  Host.gather gather_S10240_S160000x1_S160000_n_0_n_n_0_1_1 (places p)
    (broadcastInDim S160000x1 ![0] bcast_S160000_S160000x1_0 (edgeIndex 10240#32 w))

/-- Which edges count: the ends differ and this end is one of the first 5000 selected. -/
def counts (p : IVec S5120 32) (apart : IVec S160000 1) (w : IVec S160000 32) : IVec S160000 1 :=
  andi (andi apart (cmpi .sge (placeOf p w) (forEdges 0#32))) (cmpi .slt (placeOf p w) (forEdges 5000#32))

/-- Two columns of index words side by side, one pair for each edge. -/
def edgePairs (a b : IVec S160000 32) : IVec S160000x2 32 :=
  concatenate S160000x2 1 [⟨S160000x1, broadcastInDim S160000x1 ![0] bcast_S160000_S160000x1_0 a⟩,
    ⟨S160000x1, broadcastInDim S160000x1 ![0] bcast_S160000_S160000x1_0 b⟩] concatenates_S160000x1_S160000x1_S160000x2_d1

/-- The same for the places of the selection. -/
def placePairs (a b : IVec S5120 32) : IVec S5120x2 32 :=
  concatenate S5120x2 1 [⟨S5120x1, broadcastInDim S5120x1 ![0] bcast_S5120_S5120x1_0 a⟩,
    ⟨S5120x1, broadcastInDim S5120x1 ![0] bcast_S5120_S5120x1_0 b⟩] concatenates_S5120x1_S5120x1_S5120x2_d1

/-- What each edge adds: one where it counts. -/
def edgeOnes (k : IVec S160000 1) : FVec Ideal S160000 .f32 :=
  select k (broadcastInDim S160000 ![] bcast_S_S160000 (constant S_ .f32 0x3F800000#32))
    (broadcastInDim S160000 ![] bcast_S_S160000 (constant S_ .f32 0#32))

/-- What each place of the selection adds: one for the first 5000. -/
def placeOnes : FVec Ideal S5120 .f32 :=
  select (cmpi .slt (iotaInDim S5120 32 0) (forPlaces 5000#32))
    (broadcastInDim S5120 ![] bcast_S_S5120 (constant S_ .f32 0x3F800000#32))
    (broadcastInDim S5120 ![] bcast_S_S5120 (constant S_ .f32 0#32))

/-- The factor: one row for each place of the selection, one column for each node. -/
def factor (p : IVec S5120 32) (apart : IVec S160000 1) (near far : IVec S160000 32) : FVec Ideal S5120x10240 .f32 :=
  Host.scatterAdd scatter_S5120x10240_S5120x2_S5120_n_01_01_1
    (Host.scatterAdd scatter_S5120x10240_S160000x2_S160000_n_01_01_1
      (broadcastInDim S5120x10240 ![] bcast_S_S5120x10240 (constant S_ .f32 0#32))
      (edgePairs (edgeIndex 5120#32 (select (counts p apart near) (placeOf p near) (forEdges 0#32))) (edgeIndex 10240#32 far))
      (edgeOnes (counts p apart near)))
    (placePairs (placeIndex 5120#32 (iotaInDim S5120 32 0)) (placeIndex 10240#32 p)) placeOnes

variable (m : (ℓ : Loc nD τ sig) → Buf (Elt Ideal) ℓ)

/-- The edge list the call is given. -/
abbrev edges (c : Dev nD) : IVec S2x160000 32 := m ((c : Thread nD τ).loc main_arg0)

/-- The selection it is given. -/
abbrev picks (c : Dev nD) : IVec S5120 32 := m ((c : Thread nD τ).loc main_arg1)

theorem edge_pairs (a b : IVec S160000x1 32) (a' b' : IVec S160000 32) (ha : a = broadcastInDim S160000x1 ![0] bcast_S160000_S160000x1_0 a')
    (hb : b = broadcastInDim S160000x1 ![0] bcast_S160000_S160000x1_0 b') :
    concatenate S160000x2 1 [⟨S160000x1, a⟩, ⟨S160000x1, b⟩] concatenates_S160000x1_S160000x1_S160000x2_d1 = edgePairs a' b' := by
  subst ha hb
  rfl

theorem place_pairs (a b : IVec S5120x1 32) (a' b' : IVec S5120 32) (ha : a = broadcastInDim S5120x1 ![0] bcast_S5120_S5120x1_0 a')
    (hb : b = broadcastInDim S5120x1 ![0] bcast_S5120_S5120x1_0 b') :
    concatenate S5120x2 1 [⟨S5120x1, a⟩, ⟨S5120x1, b⟩] concatenates_S5120x1_S5120x1_S5120x2_d1 = placePairs a' b' := by
  subst ha hb
  rfl

/-- The left array at an index. -/
theorem left_is (c : Dev nD) (a : Fin 5120) (n : Fin 10240) :
    (show FVec Ideal S5120x10240 .bf16 from V m c main_v144) (ix2 a n)
      = factor (picks m c) (cmpi .ne (endsRow 0 (edges m c)) (endsRow 1 (edges m c))) (endsRow 0 (edges m c)) (endsRow 1 (edges m c)) (ix2 a n) := by
  unfold V
  after_reads_at
  unfold factor
  refine congrFun (congrArg₂ (fun x y => Host.scatterAdd scatter_S5120x10240_S5120x2_S5120_n_01_01_1 x y _) (congrArg (fun y => Host.scatterAdd scatter_S5120x10240_S160000x2_S160000_n_01_01_1 _ y _) (edge_pairs _ _ _ _ ?_ ?_)) (place_pairs _ _ _ _ ?_ ?_)) _
  all_goals after_reads_at
  all_goals rfl

/-- The right array at an index: the ends of the edges change places. -/
theorem right_is (c : Dev nD) (a : Fin 5120) (n : Fin 10240) :
    (show FVec Ideal S5120x10240 .bf16 from V m c main_v145) (ix2 a n)
      = factor (picks m c) (cmpi .ne (endsRow 0 (edges m c)) (endsRow 1 (edges m c))) (endsRow 1 (edges m c)) (endsRow 0 (edges m c)) (ix2 a n) := by
  unfold V
  after_reads_at
  unfold factor
  refine congrFun (congrArg₂ (fun x y => Host.scatterAdd scatter_S5120x10240_S5120x2_S5120_n_01_01_1 x y _) (congrArg (fun y => Host.scatterAdd scatter_S5120x10240_S160000x2_S160000_n_01_01_1 _ y _) (edge_pairs _ _ _ _ ?_ ?_)) (place_pairs _ _ _ _ ?_ ?_)) _
  all_goals after_reads_at
  all_goals rfl

end Cert.KernelIdeal.Prefix

end
-- ==== Proof.Factor.lean ====
/- The factor at an index, where the ends of the edges are nodes and the first 5000 selected are different nodes. -/
module

public import proofs.«01_k».proof.Proof.Prefix
public import proofs.«01_k».proof.Proof.Place

@[expose] public section

set_option maxRecDepth 16384

noncomputable section

namespace Cert.KernelIdeal.Prefix

open Cert.KernelIdeal Cert.KernelIdeal.Gen Cert.Place
open Idealize.ShloMosaic Idealize.ShloMosaic.TcCoe Idealize.SL.Sem

theorem edgeIndex_at (k : BitVec 32) (w : IVec S160000 32) (e : Fin 160000) (b : ℕ) (h : (w (ix1 e)).toInt = (b : ℤ)) :
    edgeIndex k w (ix1 e) = w (ix1 e) :=
  not_wrapped (w (ix1 e)) k b h

theorem placeIndex_at (k : BitVec 32) (w : IVec S5120 32) (i : Fin 5120) (b : ℕ) (h : (w (ix1 i)).toInt = (b : ℤ)) :
    placeIndex k w (ix1 i) = w (ix1 i) :=
  not_wrapped (w (ix1 i)) k b h

theorem edgePairs_0 (a b : IVec S160000 32) (e : Fin 160000) : edgePairs a b (ix2 e (0 : Fin 2)) = a (ix1 e) := by
  pointwise [edgePairs]

theorem edgePairs_1 (a b : IVec S160000 32) (e : Fin 160000) : edgePairs a b (ix2 e (1 : Fin 2)) = b (ix1 e) := by
  pointwise [edgePairs]

theorem placePairs_0 (a b : IVec S5120 32) (e : Fin 5120) : placePairs a b (ix2 e (0 : Fin 2)) = a (ix1 e) := by
  pointwise [placePairs]

theorem placePairs_1 (a b : IVec S5120 32) (e : Fin 5120) : placePairs a b (ix2 e (1 : Fin 2)) = b (ix1 e) := by
  pointwise [placePairs]

theorem column_at (w : IVec S5120 32) (i : Fin 5120) :
    broadcastInDim S5120x1 ![0] bcast_S5120_S5120x1_0 w (ix2 i (0 : Fin 1)) = w (ix1 i) := by
  pointwise

theorem edgeColumn_at (w : IVec S160000 32) (e : Fin 160000) :
    broadcastInDim S160000x1 ![0] bcast_S160000_S160000x1_0 w (ix2 e (0 : Fin 1)) = w (ix1 e) := by
  pointwise

/-- The place `i` of the selection as one of the 5120. -/
abbrev slot (i : Fin 5000) : Fin 5120 := ⟨i.val, by omega⟩

/-- What is asked of the selection: its first 5000 words are the different nodes `sel`, and the rest name none of the nodes. -/
structure Selects (p : IVec S5120 32) (sel : Fin 5000 → Fin 10000) : Prop where
  kept : ∀ i, (p (ix1 (slot i))).toInt = (sel i).val
  distinct : Function.Injective sel
  fill : ∀ i : Fin 5120, 5000 ≤ i.val → 10000 ≤ (p (ix1 i)).toInt

variable {p : IVec S5120 32} {sel : Fin 5000 → Fin 10000}

theorem Selects.nat (s : Selects p sel) (i : Fin 5120) : ∃ b : ℕ, (p (ix1 i)).toInt = (b : ℤ) := by
  by_cases h : i.val < 5000
  · exact ⟨_, s.kept ⟨i.val, h⟩⟩
  · have := s.fill i (by omega)
    exact ⟨(p (ix1 i)).toInt.toNat, by omega⟩

theorem Selects.index (s : Selects p sel) (k : BitVec 32) (i : Fin 5120) : placeIndex k p (ix1 i) = p (ix1 i) := by
  obtain ⟨b, hb⟩ := s.nat i
  exact placeIndex_at k p i b hb

/-- A node that is selected has its place. -/
theorem places_kept (s : Selects p sel) (i : Fin 5000) :
    places p (ix1 (⟨(sel i).val, by omega⟩ : Fin 10240)) = BitVec.ofNat 32 i.val := by
  have word : ∀ e : Fin 5120, (broadcastInDim S5120x1 ![0] bcast_S5120_S5120x1_0 (placeIndex 10240#32 p) (ix2 e (0 : Fin 1))).toInt = (p (ix1 e)).toInt := fun e => by
    rw [column_at, s.index]
  refine (set_at _ _ _ _ (⟨(sel i).val, by omega⟩ : Fin 10240) (slot i) ((word _).trans (s.kept i)) fun e' he => ?_).trans ?_
  · rw [word] at he
    have q : e'.val < 5000 := by
      by_contra hc
      have := s.fill e' (by omega)
      have := (sel i).isLt
      simp only at he
      omega
    have := s.distinct (a₁ := ⟨e'.val, q⟩) (a₂ := i) (Fin.ext (by have := s.kept ⟨e'.val, q⟩; simp only at he; have hh : slot ⟨e'.val, q⟩ = e' := rfl; rw [hh] at this; omega))
    have hv : e'.val = i.val := congrArg Fin.val this
    exact Fin.ext hv
  · pointwise

/-- A node that is not selected has none. -/
theorem places_other (s : Selects p sel) (v : Fin 10000) (h : ∀ i, sel i ≠ v) :
    places p (ix1 (⟨v.val, by omega⟩ : Fin 10240)) = 4294967295#32 := by
  have word : ∀ e : Fin 5120, (broadcastInDim S5120x1 ![0] bcast_S5120_S5120x1_0 (placeIndex 10240#32 p) (ix2 e (0 : Fin 1))).toInt = (p (ix1 e)).toInt := fun e => by
    rw [column_at, s.index]
  refine (set_miss _ _ _ _ _ fun e' => ?_).trans ?_
  · rw [word]
    intro he
    have q : e'.val < 5000 := by
      by_contra hc
      have := s.fill e' (by omega)
      simp only at he
      omega
    exact h ⟨e'.val, q⟩ (Fin.ext (by have := s.kept ⟨e'.val, q⟩; simp only at he; have hh : slot ⟨e'.val, q⟩ = e' := rfl; rw [hh] at this; omega))
  · pointwise

/-- An end of an edge: the node `v e`. -/
def Names (w : IVec S160000 32) (v : Fin 160000 → Fin 10000) : Prop := ∀ e, (w (ix1 e)).toInt = (v e).val

variable {near far : IVec S160000 32} {u v : Fin 160000 → Fin 10000}

theorem placeOf_at (h : Names near u) (e : Fin 160000) :
    placeOf p near (ix1 e) = places p (ix1 (⟨(u e).val, by omega⟩ : Fin 10240)) := by
  refine entry_taken _ rfl rfl rfl rfl _ _ e _ ?_ (by norm_num)
  rw [edgeColumn_at, edgeIndex_at _ _ _ _ (h e)]
  exact h e

theorem counts_at (p : IVec S5120 32) (apart : IVec S160000 1) (near : IVec S160000 32) (e : Fin 160000) :
    counts p apart near (ix1 e) = IntOp.andi (IntOp.andi (apart (ix1 e)) (IntOp.cmpi .sge (placeOf p near (ix1 e)) 0#32))
      (IntOp.cmpi .slt (placeOf p near (ix1 e)) 5000#32) := rfl

/-- An edge whose end is selected counts if its ends differ. -/
theorem counts_kept (s : Selects p sel) (h : Names near u) (apart : IVec S160000 1) (e : Fin 160000) (i : Fin 5000) (hi : sel i = u e) :
    placeOf p near (ix1 e) = BitVec.ofNat 32 i.val ∧ counts p apart near (ix1 e) = apart (ix1 e) := by
  have q : placeOf p near (ix1 e) = BitVec.ofNat 32 i.val := by
    rw [placeOf_at h]
    have := places_kept s i
    simp only [hi] at this
    exact this
  have hlt := i.isLt
  refine ⟨q, ?_⟩
  rw [counts_at, q, (WordCmp.cmpi_sge_ofNat_eq_one_iff (w := 32) (b := 0) (by omega) (by omega)).2 (by omega),
    (WordCmp.cmpi_slt_ofNat_eq_one_iff (w := 32) (b := 5000) (by omega) (by omega)).2 (by omega)]
  generalize apart (ix1 e) = x
  revert x
  decide

/-- An edge whose end is not selected does not count. -/
theorem counts_other (s : Selects p sel) (h : Names near u) (apart : IVec S160000 1) (e : Fin 160000) (hi : ∀ i, sel i ≠ u e) :
    counts p apart near (ix1 e) = 0#1 := by
  rw [counts_at, placeOf_at h, places_other s _ hi]
  generalize apart (ix1 e) = x
  revert x
  decide

theorem edgeOnes_at (k : IVec S160000 1) (e : Fin 160000) : edgeOnes k (ix1 e) = if k (ix1 e) = 1#1 then (1 : EReal) else 0 := by
  show Scalar.select (k (ix1 e)) _ _ = _
  by_cases q : k (ix1 e) = 1#1
  · rw [if_pos q, q, WordCmp.select_of_eq_one rfl]
    pointwise
  · rw [if_neg q, WordCmp.select_of_eq_zero (by generalize k (ix1 e) = x at *; revert x; decide)]
    pointwise

theorem placeOnes_at (i : Fin 5120) : placeOnes (ix1 i) = if i.val < 5000 then (1 : EReal) else 0 := by
  have hi := i.isLt
  show Scalar.select (IntOp.cmpi .slt (BitVec.ofNat 32 i.val) (BitVec.ofNat 32 5000)) _ _ = _
  by_cases q : i.val < 5000
  · rw [if_pos q, WordCmp.select_of_eq_one ((WordCmp.cmpi_slt_ofNat_eq_one_iff (w := 32) (by omega) (by omega)).2 q)]
    pointwise
  · rw [if_neg q, WordCmp.select_of_eq_zero ((WordCmp.cmpi_slt_ofNat_eq_zero_iff (w := 32) (by omega) (by omega)).2 (by omega))]
    pointwise

theorem factor_at (p : IVec S5120 32) (apart : IVec S160000 1) (near far : IVec S160000 32) (a : Fin 5120) (n : Fin 10240) :
    factor p apart near far (ix2 a n)
      = ((0 : EReal) + ∑ e : Fin 160000, if (edgeIndex 5120#32 (select (counts p apart near) (placeOf p near) (forEdges 0#32)) (ix1 e)).toInt = a.val
            ∧ (edgeIndex 10240#32 far (ix1 e)).toInt = n.val then edgeOnes (counts p apart near) (ix1 e) else 0)
        + ∑ i : Fin 5120, if (placeIndex 5120#32 (iotaInDim S5120 32 0) (ix1 i)).toInt = a.val ∧ (placeIndex 10240#32 p (ix1 i)).toInt = n.val
            then placeOnes (ix1 i) else 0 := by
  unfold factor
  refine (added_at _ _ _ _ a n).trans (congrArg₂ (· + ·) ((added_at _ _ _ _ a n).trans (congrArg₂ (· + ·) ?_ ?_)) ?_)
  · pointwise
  · simp only [edgePairs_0, edgePairs_1]
  · simp only [placePairs_0, placePairs_1]

/-- The row word of an edge that counts. -/
theorem row_word (s : Selects p sel) (h : Names near u) (apart : IVec S160000 1) (e : Fin 160000) (i : Fin 5000) (hi : sel i = u e)
    (ha : apart (ix1 e) = 1#1) :
    (edgeIndex 5120#32 (select (counts p apart near) (placeOf p near) (forEdges 0#32)) (ix1 e)).toInt = i.val := by
  obtain ⟨hp, hc⟩ := counts_kept s h apart e i hi
  have hlt := i.isLt
  have q : select (counts p apart near) (placeOf p near) (forEdges 0#32) (ix1 e) = BitVec.ofNat 32 i.val := by
    show Scalar.select (counts p apart near (ix1 e)) (placeOf p near (ix1 e)) _ = _
    rw [hc, ha, WordCmp.select_of_eq_one rfl, hp]
  have t : (BitVec.ofNat 32 i.val).toInt = (i.val : ℤ) := StableHlo.Predicate.toInt_ofNat_small _ (by omega)
  rw [edgeIndex_at _ _ _ i.val (by rw [q, t]), q, t]

/-- What an edge adds at row `a`, column `n`. -/
theorem edge_term (s : Selects p sel) (hn : Names near u) (hf : Names far v) (apart : IVec S160000 1)
    (hap : ∀ e, apart (ix1 e) = 1#1 ↔ (u e).val ≠ (v e).val) (a : Fin 5120) (n : Fin 10240) (e : Fin 160000) :
    (if (edgeIndex 5120#32 (select (counts p apart near) (placeOf p near) (forEdges 0#32)) (ix1 e)).toInt = a.val
            ∧ (edgeIndex 10240#32 far (ix1 e)).toInt = n.val then edgeOnes (counts p apart near) (ix1 e) else 0)
      = if (u e).val ≠ (v e).val ∧ (∃ i : Fin 5000, i.val = a.val ∧ sel i = u e) ∧ (v e).val = n.val then (1 : EReal) else 0 := by
  rw [edgeOnes_at, edgeIndex_at _ _ _ _ (hf e), hf e]
  by_cases hs : ∃ i, sel i = u e
  · obtain ⟨i, hi⟩ := hs
    obtain ⟨-, hc⟩ := counts_kept s hn apart e i hi
    rw [hc]
    by_cases ha : apart (ix1 e) = 1#1
    · rw [row_word s hn apart e i hi ha, if_pos ha]
      refine if_congr ?_ rfl rfl
      constructor
      · rintro ⟨h1, h2⟩
        exact ⟨(hap e).1 ha, ⟨i, by omega, hi⟩, by omega⟩
      · rintro ⟨-, ⟨i', h1, h2⟩, h3⟩
        have := s.distinct (h2.trans hi.symm)
        subst this
        exact ⟨by omega, by omega⟩
    · rw [if_neg ha, ite_self, if_neg fun k => ha ((hap e).2 k.1)]
  · rw [counts_other s hn apart e fun i hi => hs ⟨i, hi⟩, if_neg (by decide : ¬ (0#1 = 1#1)), ite_self,
      if_neg fun k => hs (k.2.1.imp fun _ h => h.2)]

/-- What a place of the selection adds at row `a`, column `n`. -/
theorem place_term (s : Selects p sel) (a : Fin 5120) (n : Fin 10240) (i : Fin 5120) :
    (if (placeIndex 5120#32 (iotaInDim S5120 32 0) (ix1 i)).toInt = a.val ∧ (placeIndex 10240#32 p (ix1 i)).toInt = n.val
            then placeOnes (ix1 i) else 0)
      = if i = a then if (∃ j : Fin 5000, j.val = a.val ∧ (sel j).val = n.val) then (1 : EReal) else 0 else 0 := by
  have hi := i.isLt
  have t : (iotaInDim S5120 32 0 (ix1 i)).toInt = (i.val : ℤ) := StableHlo.Predicate.toInt_ofNat_small i.val (by omega)
  rw [placeOnes_at, s.index, placeIndex_at _ _ _ _ t, t]
  by_cases q : i = a
  · subst q
    rw [if_pos rfl]
    by_cases r : i.val < 5000
    · rw [if_pos r]
      refine if_congr ?_ rfl rfl
      have k := s.kept ⟨i.val, r⟩
      have hh : slot ⟨i.val, r⟩ = i := rfl
      rw [hh] at k
      rw [k]
      constructor
      · rintro ⟨-, h⟩
        exact ⟨⟨i.val, r⟩, rfl, by omega⟩
      · rintro ⟨j, h1, h2⟩
        have : j = ⟨i.val, r⟩ := Fin.ext h1
        subst this
        exact ⟨rfl, by omega⟩
    · rw [if_neg r, ite_self, if_neg]
      rintro ⟨j, h1, -⟩
      omega
  · rw [if_neg q, if_neg]
    rintro ⟨h, -⟩
    exact q (Fin.ext (by omega))

/-- A kept node's row of the factor counts its edges. -/
theorem factor_kept (s : Selects p sel) (hn : Names near u) (hf : Names far v) (apart : IVec S160000 1)
    (hap : ∀ e, apart (ix1 e) = 1#1 ↔ (u e).val ≠ (v e).val) (i : Fin 5000) (n : Fin 10240) :
    factor p apart near far (ix2 (slot i) n) = links u v (sel i).val n.val := by
  rw [factor_at, zero_add]
  unfold links
  refine congrArg₂ (· + ·) (Finset.sum_congr rfl fun e _ => ?_) ?_
  · rw [edge_term s hn hf apart hap]
    refine if_congr ?_ rfl rfl
    constructor
    · rintro ⟨h1, ⟨j, h2, h3⟩, h4⟩
      have : j = i := Fin.ext h2
      subst this
      exact ⟨h1, by rw [h3], h4⟩
    · rintro ⟨h1, h2, h3⟩
      exact ⟨h1, ⟨i, rfl, Fin.ext h2.symm⟩, h3⟩
  · rw [Finset.sum_congr rfl fun j _ => place_term s (slot i) n j, Finset.sum_ite_eq' Finset.univ (slot i), if_pos (Finset.mem_univ _)]
    refine if_congr ?_ rfl rfl
    constructor
    · rintro ⟨j, h1, h2⟩
      have : j = i := Fin.ext h1
      subst this
      exact h2
    · exact fun h => ⟨i, rfl, h⟩

/-- The rows after the kept nodes' are zero. -/
theorem factor_rest (s : Selects p sel) (hn : Names near u) (hf : Names far v) (apart : IVec S160000 1)
    (hap : ∀ e, apart (ix1 e) = 1#1 ↔ (u e).val ≠ (v e).val) (a : Fin 5120) (ha : 5000 ≤ a.val) (n : Fin 10240) :
    factor p apart near far (ix2 a n) = 0 := by
  rw [factor_at, zero_add]
  have e1 : ∀ e : Fin 160000, ¬ ((u e).val ≠ (v e).val ∧ (∃ i : Fin 5000, i.val = a.val ∧ sel i = u e) ∧ (v e).val = n.val) := by
    rintro e ⟨-, ⟨i, h, -⟩, -⟩
    omega
  have e2 : ¬ ∃ j : Fin 5000, j.val = a.val ∧ (sel j).val = n.val := by
    rintro ⟨j, h, -⟩
    omega
  rw [Finset.sum_congr rfl fun e _ => (edge_term s hn hf apart hap a n e).trans (if_neg (e1 e)), Finset.sum_const_zero, zero_add,
    Finset.sum_congr rfl fun j _ => (place_term s a n j).trans (by rw [if_neg e2, ite_self]), Finset.sum_const_zero]

end Cert.KernelIdeal.Prefix

end
-- ==== Proof.Network.lean ====
/- The reference's results at an index, where the ends of the edges are nodes and the first 5000 selected are different nodes. -/
module

public import proofs.«01_k».proof.Proof.Gen.ReferenceIdeal.Run
public import proofs.«01_k».proof.Proof.Place

@[expose] public section

set_option maxRecDepth 16384

noncomputable section

namespace Cert.ReferenceIdeal.Network

open Cert.ReferenceIdeal Cert.ReferenceIdeal.Gen Cert.Place
open Idealize.ShloMosaic Idealize.ShloMosaic.TcCoe Idealize.SL.Sem

/-- The node each edge starts from. -/
def sources (e : IVec S2x160000 32) : IVec S160000 32 :=
  shapeCast S160000 (extractStridedSlice S1x160000 ![0, 0] e slices_S2x160000_S1x160000_0_0) shapeCasts_S1x160000_S160000

/-- The node each edge goes to. -/
def targets (e : IVec S2x160000 32) : IVec S160000 32 :=
  shapeCast S160000 (extractStridedSlice S1x160000 ![1, 0] e slices_S2x160000_S1x160000_1_0) shapeCasts_S1x160000_S160000

/-- A node's index, counted from the end where it is negative. -/
def wrapped (w : IVec S160000 32) : IVec S160000 32 :=
  select (cmpi .slt w (broadcastInDim S160000 ![] bcast_S_S160000 (constantI S_ 32 0#32)))
    (addi w (broadcastInDim S160000 ![] bcast_S_S160000 (constantI S_ 32 10000#32))) w

/-- Both ends of each edge. -/
def ends (a b : IVec S160000 32) : IVec S160000x2 32 :=
  concatenate S160000x2 1 [⟨S160000x1, broadcastInDim S160000x1 ![0] bcast_S160000_S160000x1_0 a⟩,
    ⟨S160000x1, broadcastInDim S160000x1 ![0] bcast_S160000_S160000x1_0 b⟩] concatenates_S160000x1_S160000x1_S160000x2_d1

/-- The number of edges between any two nodes. -/
def counted (e : IVec S2x160000 32) : FVec Ideal S10000x10000 .f32 :=
  Host.scatterAdd scatter_S10000x10000_S160000x2_S160000_n_01_01_1
    (broadcastInDim S10000x10000 ![] bcast_S_S10000x10000 (constant S_ .f32 0x00000000#32))
    (ends (wrapped (sources e)) (wrapped (targets e))) (broadcastInDim S160000 ![] bcast_S_S160000 (constant S_ .f32 0x3F800000#32))

/-- The identity matrix. -/
def eye : FVec Ideal S10000x10000 .f32 :=
  uitofp .f32 (cmpi .eq (addi (iotaInDim S10000x10000 32 0) (broadcastInDim S10000x10000 ![] bcast_S_S10000x10000 (constantI S_ 32 0#32)))
    (iotaInDim S10000x10000 32 1))

/-- Ones off the diagonal. -/
def offDiagonal : FVec Ideal S10000x10000 .f32 :=
  subf (broadcastInDim S10000x10000 ![] bcast_S_S10000x10000 (constant S_ .f32 0x3F800000#32)) eye

/-- The adjacency with one loop at each node. -/
def looped (e : IVec S2x160000 32) : FVec Ideal S10000x10000 .f32 := addf (mulf (counted e) offDiagonal) eye

/-- Its square, without the diagonal. -/
def squared (e : IVec S2x160000 32) : FVec Ideal S10000x10000 .f32 :=
  mulf (Host.dotGeneral dot_S10000x10000_S10000x10000_S10000x10000_1_0_0_1_n_n none (looped e) (looped e)) offDiagonal

/-- The nodes that are kept, as index words. -/
def keptWords (p : IVec S5120 32) : IVec S5000x1 32 :=
  broadcastInDim S5000x1 ![0] bcast_S5000_S5000x1_0
    (select (cmpi .slt (extractStridedSlice S5000 ![0] p slices_S5120_S5000_0) (broadcastInDim S5000 ![] bcast_S_S5000 (constantI S_ 32 0#32)))
      (addi (extractStridedSlice S5000 ![0] p slices_S5120_S5000_0) (broadcastInDim S5000 ![] bcast_S_S5000 (constantI S_ 32 10000#32)))
      (extractStridedSlice S5000 ![0] p slices_S5120_S5000_0))

/-- The squared adjacency between the kept nodes. -/
def between (e : IVec S2x160000 32) (p : IVec S5120 32) : FVec Ideal S5000x5000 .f32 :=
  Host.gather gather_S5000x10000_S5000x1_S5000x5000_0_1_n_n_1_1_50001
    (Host.gather gather_S10000x10000_S5000x1_S5000x10000_1_0_n_n_0_1_110000 (squared e) (keptWords p)) (keptWords p)

/-- The same with 120 rows and columns of zeros after it. -/
def pooled (e : IVec S2x160000 32) (p : IVec S5120 32) : FVec Ideal S5120x5120 .f32 :=
  pad S5120x5120 ![0, 0] ![120, 120] ![0, 0] (between e p) (sitofp .f32 (constantI S_ 32 0#32) : FVec Ideal S_ .f32)
    pads_S5000x5000_S5120x5120_01200_01200 h_S_

variable (m : (ℓ : Loc nD τ sig) → Buf (Elt Ideal) ℓ)

/-- The edge list the reference is given. -/
abbrev edges (c : Dev nD) : IVec S2x160000 32 := m ((c : Thread nD τ).loc main_arg0)

/-- The selection it is given. -/
abbrev picks (c : Dev nD) : IVec S5120 32 := m ((c : Thread nD τ).loc main_arg1)

theorem out0_is (c : Dev nD) : Value.res_out0 m c = pooled (edges m c) (picks m c) := by
  unfold Value.res_out0 Value.res_main_v49
  rfl

theorem out1_is (c : Dev nD) : Value.res_out1 m c = (transpose S5120x5120 [1, 0] (pooled (edges m c) (picks m c)) transposes_S5120x5120_S5120x5120_1_0 : FVec Ideal S5120x5120 .f32) := by
  unfold Value.res_out1 Value.res_main_v50
  rfl

theorem out2_is (c : Dev nD) : Value.res_out2 m c = (broadcastInDim S1x5120 ![1] bcast_S5120_S1x5120_1
    (Host.reduceAdd (pooled (edges m c) (picks m c)) (constant S_ .f32 0x00000000#32) reducesTo_S5120x5120_S5120_d0 h_S_) : FVec Ideal S1x5120 .f32) := by
  unfold Value.res_out2 Value.res_main_v52
  rfl

/-- The identity at row `r`, column `k`. -/
theorem eye_at (r k : Fin 10000) : eye (ix2 r k) = if r = k then 1 else 0 := by
  pointwise [eye]
  have hr := r.isLt
  have hk := k.isLt
  show (((IntOp.cmpi .eq (IntOp.addi (BitVec.ofNat 32 r.val) (BitVec.ofNat 32 0)) (BitVec.ofNat 32 k.val)).toNat : ℝ) : EReal) = _
  exact (one_where_same r.val k.val (by omega) (by omega)).trans (if_congr Fin.ext_iff.symm rfl rfl)

/-- What is asked of the edges: edge `e` goes from node `u e` to node `v e`. -/
structure Joins (e : IVec S2x160000 32) (u v : Fin 160000 → Fin 10000) : Prop where
  from_ : ∀ k, (e (ix2 (0 : Fin 2) k)).toInt = (u k).val
  to_ : ∀ k, (e (ix2 (1 : Fin 2) k)).toInt = (v k).val

variable {e : IVec S2x160000 32} {u v : Fin 160000 → Fin 10000} {p : IVec S5120 32} {sel : Fin 5000 → Fin 10000}

theorem sources_at (e : IVec S2x160000 32) (k : Fin 160000) : sources e (ix1 k) = e (ix2 (0 : Fin 2) k) := by
  pointwise [sources]

theorem targets_at (e : IVec S2x160000 32) (k : Fin 160000) : targets e (ix1 k) = e (ix2 (1 : Fin 2) k) := by
  pointwise [targets]

theorem ends_0 (a b : IVec S160000 32) (k : Fin 160000) : ends a b (ix2 k (0 : Fin 2)) = a (ix1 k) := by
  pointwise [ends]

theorem ends_1 (a b : IVec S160000 32) (k : Fin 160000) : ends a b (ix2 k (1 : Fin 2)) = b (ix1 k) := by
  pointwise [ends]

/-- The number of edges from node `r` to node `k`. -/
theorem counted_at (h : Joins e u v) (r k : Fin 10000) :
    counted e (ix2 r k) = ∑ x : Fin 160000, if (u x).val = r.val ∧ (v x).val = k.val then (1 : EReal) else 0 := by
  unfold counted
  refine (added_at _ _ _ _ r k).trans ?_
  have z : (broadcastInDim S10000x10000 ![] bcast_S_S10000x10000 (constant S_ .f32 0x00000000#32) : FVec Ideal S10000x10000 .f32) (ix2 r k) = 0 := by
    pointwise
  refine (congrArg (· + _) z).trans ((zero_add _).trans (Finset.sum_congr rfl fun x _ => ?_))
  have w0 : wrapped (sources e) (ix1 x) = sources e (ix1 x) :=
    not_wrapped (sources e (ix1 x)) 10000#32 (u x).val (by rw [sources_at, h.from_])
  have w1 : wrapped (targets e) (ix1 x) = targets e (ix1 x) :=
    not_wrapped (targets e (ix1 x)) 10000#32 (v x).val (by rw [targets_at, h.to_])
  rw [ends_0, ends_1, w0, w1, sources_at, targets_at, h.from_, h.to_]
  refine if_congr (by omega) ?_ rfl
  pointwise

/-- The adjacency with loops at row `r`, column `k`. -/
theorem looped_at (h : Joins e u v) (r k : Fin 10000) : looped e (ix2 r k) = links u v r.val k.val := by
  have s : looped e (ix2 r k) = counted e (ix2 r k) * (1 - eye (ix2 r k)) + eye (ix2 r k) := by
    pointwise [looped, offDiagonal]
  rw [s, counted_at h, eye_at]
  unfold links
  by_cases q : r = k
  · subst q
    have n : ∀ x : Fin 160000, ¬ ((u x).val ≠ (v x).val ∧ (u x).val = r.val ∧ (v x).val = r.val) := fun x => by omega
    have o : (1 : EReal) - 1 = 0 := by simpa using EReal.sub_self (x := 1) (by decide) (by decide)
    simp only [if_true, if_neg (n _), Finset.sum_const_zero, o, mul_zero]
  · have q' : r.val ≠ k.val := fun t => q (Fin.ext t)
    rw [if_neg q, if_neg q', sub_zero, mul_one]
    refine congrArg (· + (0 : EReal)) (Finset.sum_congr rfl fun x _ => if_congr ?_ rfl rfl)
    omega

/-- The squared adjacency at row `r`, column `k`. -/
theorem squared_at (h : Joins e u v) (r k : Fin 10000) :
    squared e (ix2 r k) = if r = k then 0 else ∑ n : Fin 10000, links u v r.val n.val * links u v n.val k.val := by
  have s : squared e (ix2 r k) = (∑ n : Fin 10000, looped e (ix2 r n) * looped e (ix2 n k)) * (1 - eye (ix2 r k)) := by
    pointwise [squared, offDiagonal]
  rw [s, eye_at]
  by_cases q : r = k
  · have o : (1 : EReal) - 1 = 0 := by simpa using EReal.sub_self (x := 1) (by decide) (by decide)
    rw [if_pos q, if_pos q, o, mul_zero]
  · rw [if_neg q, if_neg q, sub_zero, mul_one]
    exact Finset.sum_congr rfl fun n _ => by rw [looped_at h, looped_at h]

theorem keptWords_at (i : Fin 5000) (h : ∀ i : Fin 5000, (p (ix1 (⟨i.val, by omega⟩ : Fin 5120))).toInt = (sel i).val) :
    (keptWords p (ix2 i (0 : Fin 1))).toInt = (sel i).val := by
  have t : keptWords p (ix2 i (0 : Fin 1)) = Scalar.select (IntOp.cmpi .slt (p (ix1 (⟨i.val, by omega⟩ : Fin 5120))) 0#32)
      (IntOp.addi (p (ix1 (⟨i.val, by omega⟩ : Fin 5120))) 10000#32) (p (ix1 (⟨i.val, by omega⟩ : Fin 5120))) := by
    pointwise [keptWords]
  rw [t, not_wrapped _ _ _ (h i), h i]

/-- Between two kept nodes. -/
theorem between_at (h : ∀ i : Fin 5000, (p (ix1 (⟨i.val, by omega⟩ : Fin 5120))).toInt = (sel i).val) (i j : Fin 5000) :
    between e p (ix2 i j) = squared e (ix2 (sel i) (sel j)) := by
  unfold between
  refine (column_taken _ _ _ i j (sel j) (keptWords_at j h)).trans ?_
  exact row_taken _ rfl rfl rfl rfl rfl _ _ i (sel j) (sel i) (keptWords_at i h) (by decide)

/-- The pooled adjacency at row `a`, column `b`. -/
theorem pooled_at (e : IVec S2x160000 32) (p : IVec S5120 32) (a b : Fin 5120) :
    pooled e p (ix2 a b) = if h : a.val < 5000 ∧ b.val < 5000 then between e p (ix2 (⟨a.val, h.1⟩ : Fin 5000) (⟨b.val, h.2⟩ : Fin 5000)) else 0 := by
  have z : (FloatOps.sitofp .f32 0#32 : Ideal .f32) = 0 := by
    show (((0#32 : BitVec 32).toInt : ℝ) : EReal) = 0
    norm_num
  pointwise [pooled]
  rw [z]

/-- The reference's second result is the first, transposed. -/
theorem out1_at (c : Dev nD) (a b : Fin 5120) :
    (show FVec Ideal S5120x5120 .f32 from Value.res_out1 m c) (ix2 b a) = pooled (edges m c) (picks m c) (ix2 a b) := by
  rw [out1_is]
  pointwise

/-- The reference's third result is its column sums. -/
theorem out2_at (c : Dev nD) (z : Fin 1) (b : Fin 5120) :
    (show FVec Ideal S1x5120 .f32 from Value.res_out2 m c) (ix2 z b) = ∑ a : Fin 5120, pooled (edges m c) (picks m c) (ix2 a b) := by
  rw [out2_is]
  pointwise

end Cert.ReferenceIdeal.Network

end
-- ==== Proof.Equation.lean ====
/- The call's three results and the reference's are the same arrays. -/
module

public import proofs.«01_k».proof.Defs
public import proofs.«01_k».proof.Proof.Arrays
public import proofs.«01_k».proof.Proof.Factor
public import proofs.«01_k».proof.Proof.Network

@[expose] public section

set_option maxRecDepth 16384

noncomputable section

/-! ## What the precondition says -/

namespace Cert.Pre_nodes_and_selection

open Idealize.ShloMosaic

theorem sides : Facts where
  slices_S5120_S5000_0 := by decide
  slices_S5120_S120_5000 := by decide
  bcast_S_S2x160000 := by decide
  bcast_S_S5000 := by decide
  bcast_S5000_S5000x1_0 := by decide
  bcast_S5000_S1x5000_1 := by decide
  bcast_S5000x1_S5000x5000_0_1 := by decide
  bcast_S1x5000_S5000x5000_0_1 := by decide
  bcast_S_S120 := by decide

variable [Facts] {e : IVec S2x160000 32} {p : IVec S5120 32}

/-- The ends of the edges are nodes. -/
theorem ends_bound (h : (fn (F := Ideal) e p).1 = fun _ => 1#1) (r : Fin 2) (k : Fin 160000) :
    0 ≤ (e (ix2 r k)).toInt ∧ (e (ix2 r k)).toInt < 10000 := by
  have t := congrFun h (ix2 r k)
  refine Place.within (e (ix2 r k)) 0#32 10000#32 (Eq.trans ?_ t)
  unfold fn fn_part1
  pointwise

/-- The kept words are nodes. -/
theorem kept_bound (h : (fn (F := Ideal) e p).2.1 = fun _ => 1#1) (i : Fin 5000) :
    0 ≤ (p (ix1 (⟨i.val, by omega⟩ : Fin 5120))).toInt ∧ (p (ix1 (⟨i.val, by omega⟩ : Fin 5120))).toInt < 10000 := by
  have t := congrFun h (ix1 i)
  refine Place.within _ 0#32 10000#32 (Eq.trans ?_ t)
  unfold fn fn_part1
  pointwise

/-- They are pairwise different. -/
theorem kept_apart (h : (fn (F := Ideal) e p).2.2.1 = fun _ => 1#1) (i j : Fin 5000)
    (q : p (ix1 (⟨i.val, by omega⟩ : Fin 5120)) = p (ix1 (⟨j.val, by omega⟩ : Fin 5120))) : i = j := by
  have t := congrFun h (ix2 i j)
  refine Fin.ext (Place.same_of_apart _ _ i.val j.val q (by omega) (by omega) (Eq.trans ?_ t))
  unfold fn fn_part1
  pointwise

/-- The words after them name none of the nodes. -/
theorem fill_bound (h : (fn (F := Ideal) e p).2.2.2 = fun _ => 1#1) (i : Fin 5120) (hi : 5000 ≤ i.val) :
    10000 ≤ (p (ix1 i)).toInt := by
  have t := congrFun h (ix1 (⟨i.val - 5000, by omega⟩ : Fin 120))
  have s : (fn (F := Ideal) e p).2.2.2 (ix1 (⟨i.val - 5000, by omega⟩ : Fin 120))
      = IntOp.cmpi .sge (p (ix1 (⟨5000 + (i.val - 5000), by omega⟩ : Fin 5120))) 10000#32 := by
    unfold fn fn_part1
    pointwise
  have k : (⟨5000 + (i.val - 5000), by omega⟩ : Fin 5120) = i := Fin.ext (show 5000 + (i.val - 5000) = i.val by omega)
  rw [s, k, WordCmp.cmpi_sge_eq, WordCmp.ofBool_decide_eq_one_iff] at t
  exact t

end Cert.Pre_nodes_and_selection

/-! ## The equation -/

namespace Cert.Equation

open Idealize.ShloMosaic Idealize.ShloMosaic.TcCoe Idealize.SL.Sem Cert.Place
open Cert.KernelIdeal.Prefix (Selects Names slot factor factor_kept factor_rest endsRow)
open Cert.KernelIdeal.Fold (left right entry)
open Cert.ReferenceIdeal.Network (Joins pooled)

/-- An edge counts backwards where its ends change places. -/
theorem links_swap (u v : Fin 160000 → Fin 10000) (x n : ℕ) : links v u x n = links u v n x := by
  unfold links
  refine congrArg₂ (· + ·) (Finset.sum_congr rfl fun e _ => if_congr ?_ rfl rfl) (if_congr eq_comm rfl rfl)
  constructor
  · rintro ⟨h1, h2, h3⟩
    exact ⟨fun h => h1 h.symm, h3, h2⟩
  · rintro ⟨h1, h2, h3⟩
    exact ⟨fun h => h1 h.symm, h3, h2⟩

/-- No edge goes to a column that stands for no node. -/
theorem links_none (u v : Fin 160000 → Fin 10000) (x : Fin 10000) (n : ℕ) (h : 10000 ≤ n) : links u v x.val n = 0 := by
  unfold links
  have t : ∀ e : Fin 160000, ¬ ((u e).val ≠ (v e).val ∧ (u e).val = x.val ∧ (v e).val = n) := fun e => by omega
  rw [Finset.sum_congr rfl fun e _ => if_neg (t e), Finset.sum_const_zero, zero_add, if_neg (by omega)]

/-- A sum over the columns is one over the nodes, where the other columns hold zero. -/
theorem sum_nodes (f : ℕ → EReal) (h : ∀ n, 10000 ≤ n → f n = 0) : ∑ n : Fin 10240, f n.val = ∑ n : Fin 10000, f n.val := by
  have t := Fin.sum_univ_add (a := 10000) (b := 240) fun n : Fin (10000 + 240) => f n.val
  refine t.trans ?_
  rw [Finset.sum_eq_zero (s := Finset.univ (α := Fin 240)) fun n _ => h _ (by simp), add_zero]
  rfl

variable (m : (ℓ : Loc KernelIdeal.nD KernelIdeal.τ KernelIdeal.sig) → Buf (Elt Ideal) ℓ) (c : Dev KernelIdeal.nD)
variable {u v : Fin 160000 → Fin 10000} {sel : Fin 5000 → Fin 10000}

/-- The ends of the edges the call is given. -/
theorem names (h : Joins (KernelIdeal.Prefix.edges m c) u v) :
    Names (endsRow 0 (KernelIdeal.Prefix.edges m c)) u ∧ Names (endsRow 1 (KernelIdeal.Prefix.edges m c)) v :=
  ⟨fun k => h.from_ k, fun k => h.to_ k⟩

/-- Where the two ends differ. -/
theorem apart (h : Joins (KernelIdeal.Prefix.edges m c) u v) (k : Fin 160000) :
    (cmpi .ne (endsRow 0 (KernelIdeal.Prefix.edges m c)) (endsRow 1 (KernelIdeal.Prefix.edges m c)) : IVec KernelIdeal.S160000 1) (ix1 k) = 1#1
      ↔ (u k).val ≠ (v k).val := by
  have h0 := h.from_ k
  have h1 := h.to_ k
  show IntOp.cmpi .ne (KernelIdeal.Prefix.edges m c (ix2 (0 : Fin 2) k)) (KernelIdeal.Prefix.edges m c (ix2 (1 : Fin 2) k)) = 1#1 ↔ _
  rw [WordCmp.cmpi_ne_eq, WordCmp.ofBool_decide_eq_one_iff]
  refine not_congr ⟨fun k => ?_, fun k => BitVec.toInt_inj.1 ?_⟩
  · have := congrArg BitVec.toInt k
    omega
  · omega

/-- An entry of the call's first result is the reference's. -/
theorem entry_is (h : Joins (KernelIdeal.Prefix.edges m c) u v) (s : Selects (KernelIdeal.Prefix.picks m c) sel) (a b : Fin 5120) :
    entry m c a b = pooled (KernelIdeal.Prefix.edges m c) (KernelIdeal.Prefix.picks m c) (ix2 a b) := by
  have hl : ∀ n, left m c (ix2 a n) = _ := fun n => KernelIdeal.Prefix.left_is m c a n
  have hr : ∀ n, right m c (ix2 b n) = _ := fun n => KernelIdeal.Prefix.right_is m c b n
  rw [ReferenceIdeal.Network.pooled_at]
  unfold entry Blocked.entry
  simp only [hl, hr]
  obtain ⟨h0, h1⟩ := names m c h
  by_cases ha : a.val < 5000
  · by_cases hb : b.val < 5000
    · rw [dif_pos ⟨ha, hb⟩, ReferenceIdeal.Network.between_at s.kept, ReferenceIdeal.Network.squared_at h]
      have e : a = b ↔ sel ⟨a.val, ha⟩ = sel ⟨b.val, hb⟩ := by
        rw [s.distinct.eq_iff, Fin.ext_iff, Fin.ext_iff]
      refine if_congr e rfl ?_
      have la : ∀ n, factor _ _ _ _ (ix2 a n) = _ := factor_kept s h0 h1 _ (apart m c h) ⟨a.val, ha⟩
      have lb : ∀ n, factor _ _ _ _ (ix2 b n) = _ := factor_kept s h1 h0 _ (fun k => (apart m c h k).trans ne_comm) ⟨b.val, hb⟩
      simp only [la, lb, links_swap u v]
      refine sum_nodes (fun n => links u v (sel ⟨a.val, ha⟩).val n * links u v n (sel ⟨b.val, hb⟩).val) fun n hn => ?_
      rw [links_none u v _ n hn, zero_mul]
    · rw [dif_neg fun k => hb k.2]
      have lb : ∀ n, factor _ _ _ _ (ix2 b n) = _ := factor_rest s h1 h0 _ (fun k => (apart m c h k).trans ne_comm) b (by omega)
      simp only [lb, mul_zero, Finset.sum_const_zero, ite_self]
  · rw [dif_neg fun k => ha k.1]
    have la : ∀ n, factor _ _ _ _ (ix2 a n) = _ := factor_rest s h0 h1 _ (apart m c h) a (by omega)
    simp only [la, zero_mul, Finset.sum_const_zero, ite_self]

/-- The precondition, read as nodes. -/
theorem read [hP : Cert.Pre_nodes_and_selection.Facts] (e : IVec KernelIdeal.S2x160000 32) (p : IVec KernelIdeal.S5120 32)
    (h0 : (Pre_nodes_and_selection.fn (F := Ideal) e p).1 = fun _ => 1#1) (h1 : (Pre_nodes_and_selection.fn (F := Ideal) e p).2.1 = fun _ => 1#1)
    (h2 : (Pre_nodes_and_selection.fn (F := Ideal) e p).2.2.1 = fun _ => 1#1) (h3 : (Pre_nodes_and_selection.fn (F := Ideal) e p).2.2.2 = fun _ => 1#1) :
    ∃ u v sel, Joins e u v ∧ Selects p sel := by
  have be := fun r k => Pre_nodes_and_selection.ends_bound h0 r k
  have bk : ∀ i : Fin 5000, 0 ≤ (p (ix1 (slot i))).toInt ∧ (p (ix1 (slot i))).toInt < 10000 := fun i => Pre_nodes_and_selection.kept_bound h1 i
  refine ⟨fun k => ⟨(e (ix2 (0 : Fin 2) k)).toInt.toNat, by have := be 0 k; omega⟩, fun k => ⟨(e (ix2 (1 : Fin 2) k)).toInt.toNat, by have := be 1 k; omega⟩,
    fun i => ⟨(p (ix1 (slot i))).toInt.toNat, by have := bk i; omega⟩, ⟨fun k => ?_, fun k => ?_⟩, ⟨fun i => ?_, fun i j q => ?_, fun i hi => Pre_nodes_and_selection.fill_bound h3 i hi⟩⟩
  · exact (Int.toNat_of_nonneg (be 0 k).1).symm
  · exact (Int.toNat_of_nonneg (be 1 k).1).symm
  · exact (Int.toNat_of_nonneg (bk i).1).symm
  · have hi := bk i
    have hj := bk j
    have t : (p (ix1 (slot i))).toInt.toNat = (p (ix1 (slot j))).toInt.toNat := congrArg Fin.val q
    have w : (p (ix1 (slot i))).toInt = (p (ix1 (slot j))).toInt := by omega
    exact Pre_nodes_and_selection.kept_apart h2 i j (BitVec.toInt_inj.1 w)

variable (m' : (ℓ : Loc ReferenceIdeal.nD ReferenceIdeal.τ ReferenceIdeal.sig) → Buf (Elt Ideal) ℓ) (c' : Dev ReferenceIdeal.nD)
  (he : ReferenceIdeal.Network.edges m' c' = KernelIdeal.Prefix.edges m c) (hp : ReferenceIdeal.Network.picks m' c' = KernelIdeal.Prefix.picks m c)
include he hp

/-- The first results are equal. -/
theorem first_is (h : Joins (KernelIdeal.Prefix.edges m c) u v) (s : Selects (KernelIdeal.Prefix.picks m c) sel) :
    (show FVec Ideal KernelIdeal.S5120x5120 .f32 from ReferenceIdeal.Value.res_out0 m' c') = KernelIdeal.Value.G2 m c := by
  refine funext fun j => ?_
  obtain ⟨a, b, rfl⟩ : ∃ a b : Fin 5120, j = ix2 a b := ⟨j 0, j 1, eq_ix2 j⟩
  rw [KernelIdeal.Fold.first, entry_is m c h s, ← he, ← hp]
  exact congrFun (ReferenceIdeal.Network.out0_is m' c') (ix2 a b)

/-- The second results are equal. -/
theorem second_is (h : Joins (KernelIdeal.Prefix.edges m c) u v) (s : Selects (KernelIdeal.Prefix.picks m c) sel) :
    (show FVec Ideal KernelIdeal.S5120x5120 .f32 from ReferenceIdeal.Value.res_out1 m' c') = KernelIdeal.Value.G3 m c := by
  refine funext fun j => ?_
  obtain ⟨b, a, rfl⟩ : ∃ b a : Fin 5120, j = ix2 b a := ⟨j 0, j 1, eq_ix2 j⟩
  rw [KernelIdeal.Fold.second, entry_is m c h s, ← he, ← hp]
  exact ReferenceIdeal.Network.out1_at m' c' a b

/-- The third results are equal. -/
theorem third_is (h : Joins (KernelIdeal.Prefix.edges m c) u v) (s : Selects (KernelIdeal.Prefix.picks m c) sel) :
    (show FVec Ideal KernelIdeal.S1x5120 .f32 from ReferenceIdeal.Value.res_out2 m' c') = KernelIdeal.Value.G4 m c := by
  refine funext fun j => ?_
  obtain ⟨z, b, rfl⟩ : ∃ (z : Fin 1) (b : Fin 5120), j = ix2 z b := ⟨j 0, j 1, eq_ix2 j⟩
  rw [KernelIdeal.Fold.third, Finset.sum_congr rfl fun a _ => entry_is m c h s a b, ← he, ← hp]
  exact ReferenceIdeal.Network.out2_at m' c' z b

end Cert.Equation

end
-- ==== Proof.Tile2.lean ====
/- The body's arithmetic at an index, and what the accumulator and the three result blocks hold at the end of a run
   of ten points of the grid. -/
module

public import proofs.«01_k».proof.Proof.Gen.Kernel2Ideal.Value
public import proofs.«01_k».proof.Proof.Place
public import proofs.«01_k».proof.Proof.Blocked
public import Idealize.ShloMosaic.Lib.Pipeline.ValueKit

@[expose] public section

set_option maxRecDepth 16384

noncomputable section

namespace Cert.Kernel2Ideal.Tile

open Cert.Kernel2Ideal Cert.Kernel2Ideal.Gen Idealize.ShloMosaic Idealize.ShloMosaic.TcCoe Idealize.SL.Sem

/-- The block the accumulator is reset to is zero everywhere. -/
theorem zeros (j : S512x512.Idx) : k0_pay1 (F := Ideal) j = 0 := by pointwise [k0_pay1]

/-- The row the column sums start from is zero everywhere. -/
theorem zero_row (j : S1x512.Idx) : k0_pay5 (F := Ideal) j = 0 := by pointwise [k0_pay5]

/-- One point adds to the accumulator the product of the left block's rows with the right block's rows. -/
theorem step (acc : FVec Ideal S512x512 .f32) (x y : FVec Ideal S512x1024 .bf16) (j : S512x512.Idx) :
    k0_pay2 acc x y j = acc j + ∑ k : Fin 1024, x (ix2 (j 0) k) * y (ix2 (j 1) k) := by
  pointwise [k0_pay2]

/-- The finished block is the accumulator with zeros where the row's number in the matrix is the column's. -/
theorem diag_cleared (i : grid0.Coords) (acc : FVec Ideal S512x512 .f32) (j : S512x512.Idx) :
    k0_pay3 (F := Ideal) i acc j = if (i 1).val * 512 + (j 0).val = (i 0).val * 512 + (j 1).val then 0 else acc j := by
  pointwise [k0_pay3]
  have h1 : (i 1).val < 5 := (i 1).isLt
  have h0 : (i 0).val < 5 := (i 0).isLt
  have g1 : (j 1).val < 512 := (j 1).isLt
  have g0 : (j 0).val < 512 := (j 0).isLt
  exact Place.zero_where_same 512 (i 1).val (j 0).val (i 0).val (j 1).val (acc j) (by omega) (by omega)

/-- The second result's block is the first's, transposed. -/
theorem transposed (i : grid0.Coords) (acc : FVec Ideal S512x512 .f32) (j : S512x512.Idx) :
    k0_pay4 (F := Ideal) i acc j = k0_pay3 (F := Ideal) i acc (ix2 (j 1) (j 0)) := by
  pointwise [k0_pay4]

/-- The third result's row gains the column sums of the finished block. -/
theorem summed (i : grid0.Coords) (acc : FVec Ideal S512x512 .f32) (d : FVec Ideal S1x512 .f32) (j : S1x512.Idx) :
    k0_pay6 (F := Ideal) i acc d j = d j + ∑ r : Fin 512, k0_pay3 (F := Ideal) i acc (ix2 r (j 1)) := by
  pointwise [k0_pay6]

end Cert.Kernel2Ideal.Tile

end
-- ==== Proof.Fold2.lean ====
/- The call is a blocked product of the two arrays it reads. -/
module

public import proofs.«01_k».proof.Proof.Tile2

@[expose] public section

set_option maxRecDepth 16384

noncomputable section

namespace Cert.Kernel2Ideal.Fold

open Cert.Kernel2Ideal Cert.Kernel2Ideal.Gen Cert.Kernel2Ideal.Value Cert.Kernel2Ideal.Tile
open Idealize.ShloMosaic Idealize.ShloMosaic.TcCoe Idealize.SL.Sem

variable (m : (ℓ : Loc nD τ sig) → Buf (Elt Ideal) ℓ)

/-- The left factor's array as the call finds it. -/
abbrev left (c : Dev nD) : FVec Ideal S2560x5120 .bf16 := V m c (Pipeline.arrRef spec0 0)

/-- The right factor's array as the call finds it. -/
abbrev right (c : Dev nD) : FVec Ideal S2560x5120 .bf16 := V m c (Pipeline.arrRef spec0 1)

/-- The left factor's block at point `t`. -/
abbrev leftB (c : Dev nD) (t : Fin cfg0.N) : FVec Ideal S512x1024 .bf16 := iblk m c 0 t

/-- The right factor's block at point `t`. -/
abbrev rightB (c : Dev nD) (t : Fin cfg0.N) : FVec Ideal S512x1024 .bf16 := iblk m c 1 t

theorem coords_at : ∀ t : Fin cfg0.N, (grid0.coords t 0).val = t.val / 25 ∧ (grid0.coords t 1).val = t.val / 5 % 5 :=
  (by decide +kernel : ∀ t : Fin grid0.N, _)

theorem points (t : Fin cfg0.N) : t.val < 125 := lt_of_lt_of_eq t.isLt N_0

theorem place_left : ∀ t : Fin cfg0.N, win0_0.index t (0 : Fin 2) = t.val / 5 % 5 ∧ win0_0.index t (1 : Fin 2) = t.val % 5 :=
  (by decide +kernel : ∀ t : Fin grid0.N, _)

theorem place_right : ∀ t : Fin cfg0.N, win0_1.index t (0 : Fin 2) = t.val / 25 ∧ win0_1.index t (1 : Fin 2) = t.val % 5 :=
  (by decide +kernel : ∀ t : Fin grid0.N, _)

/-- The left block at point `t`. -/
theorem left_block (c : Dev nD) (t : Fin cfg0.N) (r : Fin 512) (k : Fin 1024) :
    leftB m c t (ix2 r k) = left m c (ix2 ⟨t.val / 5 % 5 * 512 + r.val, by omega⟩ ⟨t.val % 5 * 1024 + k.val, by omega⟩) := by
  have h := place_left t
  show V m c (Pipeline.arrRef spec0 0) (((cfg0.win 0).blk t).view.emb (ix2 r k)) = _
  refine congrArg (V m c (Pipeline.arrRef spec0 0)) ?_
  blk_ext [h.1, h.2]

/-- The right block at point `t`. -/
theorem right_block (c : Dev nD) (t : Fin cfg0.N) (r : Fin 512) (k : Fin 1024) :
    rightB m c t (ix2 r k) = right m c (ix2 ⟨t.val / 25 * 512 + r.val, by have := points t; omega⟩ ⟨t.val % 5 * 1024 + k.val, by omega⟩) := by
  have h := place_right t
  show V m c (Pipeline.arrRef spec0 1) (((cfg0.win 1).blk t).view.emb (ix2 r k)) = _
  refine congrArg (V m c (Pipeline.arrRef spec0 1)) ?_
  blk_ext [h.1, h.2]

/-- The first result's block at the end of a run: the accumulator with the diagonal cleared. -/
theorem first_block (c : Dev nD) (t : Fin cfg0.N) (h : t.val % 5 = 4) (j : S512x512.Idx) :
    (outsAt0 m c t.val t.isLt).1 j = k0_pay3 (F := Ideal) (grid0.coords t) (outsAt0 m c t.val t.isLt).2.2.2 j := by
  by_cases h2 : t.val / 5 % 5 = 0
  · rw [outsAt0_C m c t (by omega) h h2]
    frame_out
  · rw [outsAt0_D m c t (by omega) h h2]
    frame_out

/-- The second result's block at the end of a run. -/
theorem second_block (c : Dev nD) (t : Fin cfg0.N) (h : t.val % 5 = 4) (j : S512x512.Idx) :
    (outsAt0 m c t.val t.isLt).2.1 j = k0_pay4 (F := Ideal) (grid0.coords t) (outsAt0 m c t.val t.isLt).2.2.2 j := by
  by_cases h2 : t.val / 5 % 5 = 0
  · rw [outsAt0_C m c t (by omega) h h2]
    frame_out
  · rw [outsAt0_D m c t (by omega) h h2]
    frame_out

/-- The call is a blocked product of the two arrays. -/
theorem running (c : Dev nD) : Blocked.Run (N := cfg0.N) 5 512 1024 (fun a n => left m c (ix2 a n)) (fun b n => right m c (ix2 b n))
    (fun t h r s => leftB m c ⟨t, h⟩ (ix2 r s)) (fun t h q s => rightB m c ⟨t, h⟩ (ix2 q s))
    (fun t h r q => (outsAt0 m c t h).2.2.2 (ix2 r q))
    (fun t h r q => k0_pay3 (F := Ideal) (grid0.coords ⟨t, h⟩) (outsAt0 m c t h).2.2.2 (ix2 r q))
    (fun t h q => (outsAt0 m c t h).2.2.1 (ix2 (0 : Fin 1) q)) where
  points := N_0
  rows := rfl
  steps := rfl
  several := by decide
  left t h r s a n ea en := by
    refine (left_block m c ⟨t, h⟩ r s).trans ?_
    exact congrArg₂ (fun a n => left m c (ix2 a n)) (Fin.ext ea.symm) (Fin.ext en.symm)
  right t h q s b n eb en := by
    refine (right_block m c ⟨t, h⟩ q s).trans ?_
    exact congrArg₂ (fun b n => right m c (ix2 b n)) (Fin.ext eb.symm) (Fin.ext en.symm)
  reset t h r q e := by
    rw [outsAt0_A m c ⟨t, h⟩ e (by show ¬t % 5 = 4; omega)]
    frame_out
    rw [step, zeros]
    rfl
  step t h r q e := by
    by_cases h1 : t % 5 = 4
    · by_cases h2 : t / 5 % 5 = 0
      · rw [outsAt0_C m c ⟨t, h⟩ e h1 h2]
        frame_out
        rw [step]
        exact congrArg (· + _) (congrFun (Memref.IsWhole.read_unread _ _) (ix2 r q))
      · rw [outsAt0_D m c ⟨t, h⟩ e h1 h2]
        frame_out
        rw [step]
        exact congrArg (· + _) (congrFun (Memref.IsWhole.read_unread _ _) (ix2 r q))
    · rw [outsAt0_B m c ⟨t, h⟩ e h1]
      frame_out
      rw [step]
      exact congrArg (· + _) (congrFun (Memref.IsWhole.read_unread _ _) (ix2 r q))
  cleared t h r q := by
    refine (diag_cleared _ _ _).trans ?_
    rw [(coords_at ⟨t, h⟩).1, (coords_at ⟨t, h⟩).2]
    rfl
  row_first t h q e e' := by
    rw [outsAt0_C m c ⟨t, h⟩ (by show ¬t % 5 = 0; omega) e e']
    frame_out
    rw [summed, zero_row]
    rfl
  row_next t h q e e' := by
    rw [outsAt0_D m c ⟨t, h⟩ (by show ¬t % 5 = 0; omega) e e']
    frame_out
    rw [summed]
    rfl
  row_kept t h q e := by
    by_cases h0 : t % 5 = 0
    · rw [outsAt0_A m c ⟨t, h⟩ h0 e]
      unfold out0_A_4
      rfl
    · rw [outsAt0_B m c ⟨t, h⟩ h0 e]
      unfold out0_B_4
      rfl

end Cert.Kernel2Ideal.Fold

end
-- ==== Proof.Arrays2.lean ====
/- The three result arrays of the call, at an index, as sums over the two arrays it reads. -/
module

public import proofs.«01_k».proof.Proof.Fold2

@[expose] public section

set_option maxRecDepth 16384

noncomputable section

namespace Cert.Kernel2Ideal.Fold

open Cert.Kernel2Ideal Cert.Kernel2Ideal.Gen Cert.Kernel2Ideal.Value Cert.Kernel2Ideal.Tile
open Idealize.ShloMosaic Idealize.ShloMosaic.TcCoe Idealize.SL.Sem

variable (m : (ℓ : Loc nD τ sig) → Buf (Elt Ideal) ℓ)

/-- Row `a` of the left array times row `b` of the right one, nothing on the diagonal. -/
abbrev entry (c : Dev nD) (a b : Fin 2560) : EReal :=
  Blocked.entry (fun a n => left m c (ix2 a n)) (fun b n => right m c (ix2 b n)) a b

/-- The first result, at an index. -/
theorem first (c : Dev nD) (a b : Fin 2560) : G2 m c (ix2 a b) = entry m c a b := by
  have ha := a.isLt
  have hb := b.isLt
  have hp : pt2Of (ix2 a b) = 5 * (a.val / 512 + 5 * (b.val / 512)) + 4 := by
    show 5 * (1 * (a.val / 512 - 0) + 5 * (b.val / 512 - 0)) + 4 = _
    omega
  have ht : pt2Of (ix2 a b) < cfg0.N := by rw [hp]; exact lt_of_lt_of_eq (by omega) N_0.symm
  unfold G2
  rw [dif_pos ht, ← outsAt0_sweep m c _ ht]
  refine (first_block m c ⟨pt2Of (ix2 a b), ht⟩ (by show pt2Of (ix2 a b) % 5 = 4; omega) _).trans ?_
  have place : loc2Of (ix2 a b) = ix2 (⟨a.val % 512, by omega⟩ : Fin 512) (⟨b.val % 512, by omega⟩ : Fin 512) := funext fun q => by
    fin_cases q <;> rfl
  rw [place]
  exact (running m c).finished (pt2Of (ix2 a b)) ht (by show pt2Of (ix2 a b) % 5 = 4; omega) ⟨a.val % 512, by omega⟩ ⟨b.val % 512, by omega⟩ a b
    (by show a.val = pt2Of (ix2 a b) / 5 % 5 * 512 + a.val % 512; omega)
    (by show b.val = pt2Of (ix2 a b) / 25 * 512 + b.val % 512; omega)

/-- The second result is the first, transposed. -/
theorem second (c : Dev nD) (a b : Fin 2560) : G3 m c (ix2 b a) = entry m c a b := by
  have ha := a.isLt
  have hb := b.isLt
  have hp : pt3Of (ix2 b a) = 5 * (a.val / 512 + 5 * (b.val / 512)) + 4 := by
    show 5 * (5 * (b.val / 512 - 0) + 1 * (a.val / 512 - 0)) + 4 = _
    omega
  have ht : pt3Of (ix2 b a) < cfg0.N := by rw [hp]; exact lt_of_lt_of_eq (by omega) N_0.symm
  unfold G3
  rw [dif_pos ht, ← outsAt0_sweep m c _ ht]
  refine (second_block m c ⟨pt3Of (ix2 b a), ht⟩ (by show pt3Of (ix2 b a) % 5 = 4; omega) _).trans ?_
  rw [transposed]
  have place : loc3Of (ix2 b a) = ix2 (⟨b.val % 512, by omega⟩ : Fin 512) (⟨a.val % 512, by omega⟩ : Fin 512) := funext fun q => by
    fin_cases q <;> rfl
  rw [place]
  exact (running m c).finished (pt3Of (ix2 b a)) ht (by show pt3Of (ix2 b a) % 5 = 4; omega) ⟨a.val % 512, by omega⟩ ⟨b.val % 512, by omega⟩ a b
    (by show a.val = pt3Of (ix2 b a) / 5 % 5 * 512 + a.val % 512; omega)
    (by show b.val = pt3Of (ix2 b a) / 25 * 512 + b.val % 512; omega)

/-- The third result: the column sums of the first. -/
theorem third (c : Dev nD) (z : Fin 1) (b : Fin 2560) : G4 m c (ix2 z b) = ∑ a : Fin 2560, entry m c a b := by
  have hb := b.isLt
  have hz := z.isLt
  have hp : pt4Of (ix2 z b) = 5 * (5 * (b.val / 512) + 4) + 4 := by
    show 25 * (5 * (z.val / 1 - 0) + 1 * (b.val / 512 - 0)) + 24 = _
    omega
  have ht : pt4Of (ix2 z b) < cfg0.N := by rw [hp]; exact lt_of_lt_of_eq (by omega) N_0.symm
  unfold G4
  rw [dif_pos ht, ← outsAt0_sweep m c _ ht]
  refine Eq.trans (congrArg (outsAt0 m c (pt4Of (ix2 z b)) ht).2.2.1 ?_) ((running m c).row_total (pt4Of (ix2 z b)) ht (by show pt4Of (ix2 z b) % 5 = 4; omega)
    (by show pt4Of (ix2 z b) / 5 % 5 = 4; omega) ⟨b.val % 512, by omega⟩ b (by show b.val = pt4Of (ix2 z b) / 25 * 512 + b.val % 512; omega))
  refine funext fun q => Fin.ext ?_
  fin_cases q
  · show z.val % 1 = 0
    omega
  · rfl

end Cert.Kernel2Ideal.Fold

end
-- ==== Proof.Pool.lean ====
/- Pooling from a dense adjacency, at any sizes: the factors a blocked product is given are rows of the adjacency with a loop
   added at each kept node, and their product is the squared adjacency between the kept nodes. -/
module

public import proofs.«01_k».proof.Proof.Place
public import proofs.«01_k».proof.Proof.Blocked

@[expose] public section

noncomputable section

namespace Cert.Pool

open Idealize.ShloMosaic Idealize.ShloMosaic.Routing Cert.Place

variable {N P K Q : ℕ}

/-- The adjacency, with zeros beyond its `N` nodes. -/
def padded (S : Fin N → Fin N → EReal) (x n : ℕ) : EReal := if h : x < N ∧ n < N then S ⟨x, h.1⟩ ⟨n, h.2⟩ else 0

/-- The same with one more at equal nodes. -/
def looped (S : Fin N → Fin N → EReal) (x n : ℕ) : EReal := padded S x n + if x = n then 1 else 0

/-- Between kept nodes, the square of the adjacency with loops, nothing from a node to itself. -/
def squared (S : Fin N → Fin N → EReal) (x y : Fin N) : EReal :=
  if x = y then 0 else ∑ m : Fin N, looped S x.val m.val * looped S m.val y.val

/-- What is asked of a selection: its first `K` words are different nodes and the others name none. -/
structure Selects (p : Fin Q → BitVec 32) (sel : Fin K → Fin N) : Prop where
  kept : ∀ (i : Fin K) (a : Fin Q), a.val = i.val → (p a).toInt = (sel i).val
  distinct : Function.Injective sel
  fill : ∀ a : Fin Q, K ≤ a.val → (N : ℤ) ≤ (p a).toInt

/-- Words that are different nodes, and none after them, are a selection. -/
theorem selects_of (p : Fin Q → BitVec 32) (hK : K ≤ Q) (hb : ∀ i : Fin K, 0 ≤ (p ⟨i.val, by omega⟩).toInt ∧ (p ⟨i.val, by omega⟩).toInt < N)
    (hd : ∀ i j : Fin K, p ⟨i.val, by omega⟩ = p ⟨j.val, by omega⟩ → i = j) (hf : ∀ a : Fin Q, K ≤ a.val → (N : ℤ) ≤ (p a).toInt) :
    ∃ sel : Fin K → Fin N, Selects p sel := by
  refine ⟨fun i => ⟨(p ⟨i.val, by omega⟩).toInt.toNat, by have := hb i; omega⟩, fun i a h => ?_, fun i j q => ?_, hf⟩
  · rw [show a = ⟨i.val, by omega⟩ from Fin.ext h]
    exact (Int.toNat_of_nonneg (hb i).1).symm
  · have hi := hb i
    have hj := hb j
    have t : (p ⟨i.val, by omega⟩).toInt.toNat = (p ⟨j.val, by omega⟩).toInt.toNat := congrArg Fin.val q
    refine hd i j (BitVec.toInt_inj.1 ?_)
    omega

theorem looped_swap (S : Fin N → Fin N → EReal) (x n : ℕ) : looped (fun a b => S b a) x n = looped S n x := by
  unfold looped padded
  refine congrArg₂ (· + ·) ?_ (if_congr eq_comm rfl rfl)
  by_cases h : x < N ∧ n < N
  · rw [dif_pos h, dif_pos h.symm]
  · rw [dif_neg h, dif_neg fun k => h k.symm]

/-- Beyond the nodes there is nothing. -/
theorem looped_none (S : Fin N → Fin N → EReal) (x : Fin N) (n : ℕ) (h : N ≤ n) : looped S x.val n = 0 := by
  unfold looped padded
  rw [dif_neg (by omega), if_neg (by omega), add_zero]

/-- An entry without a loop, its diagonal cleared and then set to one. -/
theorem cleared_and_set (s : EReal) (q : Prop) [Decidable q] (h : q → s = 0) :
    s * (1 - if q then 1 else 0) + (if q then 1 else 0) = s + if q then 1 else 0 := by
  have o : (1 : EReal) - 1 = 0 := by simpa using EReal.sub_self (x := 1) (by decide) (by decide)
  by_cases c : q
  · rw [if_pos c, h c, zero_mul]
  · rw [if_neg c, sub_zero, mul_one]

/-- Rows taken from a matrix, the row's number no larger than the last row's. -/
theorem row_clamped {α : Type} {R C n : ℕ} (wf) (x : (shape2 R C).Idx → α) (idx : IVec (shape2 n 1) 32) (a : Fin n) (c : Fin C) (b : Fin R)
    (hb : min (idx (ix2 a (0 : Fin 1))).toInt.toNat (R - 1) = b.val) :
    Host.gather (⟨[1], [0], [], [], [0], 1, ![1, C], wf⟩ : GatherDims (shape2 R C) (shape2 n 1) (shape2 n C)) x idx (ix2 a c) = x (ix2 b c) := by
  unfold Host.gather
  refine congrArg x (funext fun q => Fin.ext ?_)
  fin_cases q
  · have hsi : ∀ h, GatherDims.siIdx (⟨[1], [0], [], [], [0], 1, ![1, C], wf⟩ : GatherDims (shape2 R C) (shape2 n 1) (shape2 n C)) (ix2 a c) ⟨0, h⟩
        = ix2 a (0 : Fin 1) := fun h => funext fun q => by fin_cases q <;> rfl
    have key : min (idx (GatherDims.siIdx (⟨[1], [0], [], [], [0], 1, ![1, C], wf⟩ : GatherDims (shape2 R C) (shape2 n 1) (shape2 n C)) (ix2 a c) ⟨0, Nat.one_pos⟩)).toInt.toNat
        (R - 1) + 0 + 0 = b.val := by
      rw [hsi, hb]
      rfl
    exact key
  · show 0 + 0 + c.val = c.val
    omega

variable {S : Fin N → Fin N → EReal} {p : Fin Q → BitVec 32} {sel : Fin K → Fin N}

/-- A factor: rows of the padded adjacency, one added in each kept row at its node. The rows after the kept ones are zero. -/
theorem factor_at (hN : N < P) (wfg wfs) (X : (shape2 P P).Idx → EReal) (gi : IVec (shape2 Q 1) 32)
    (si : IVec (shape2 Q 2) 32) (ones : (shape1 Q).Idx → EReal) (s : Selects p sel)
    (hX : ∀ x n : Fin P, X (ix2 x n) = padded S x.val n.val) (hg : ∀ a, gi (ix2 a (0 : Fin 1)) = p a)
    (h0 : ∀ e, (si (ix2 e (0 : Fin 2))).toInt = e.val) (h1 : ∀ e, si (ix2 e (1 : Fin 2)) = p e)
    (ho : ∀ e, ones (ix1 e) = if e.val < K then 1 else 0) (a : Fin Q) (n : Fin P) :
    Ideal.hostScatterAdd (pairs Q P Q wfs)
      (Host.gather (⟨[1], [0], [], [], [0], 1, ![1, P], wfg⟩ : GatherDims (shape2 P P) (shape2 Q 1) (shape2 Q P)) X gi) si ones (ix2 a n)
      = if h : a.val < K then looped S (sel ⟨a.val, h⟩).val n.val else 0 := by
  rw [added_at, row_clamped wfg X gi a n ⟨min (p a).toInt.toNat (P - 1), by omega⟩ (by rw [hg]), hX]
  have term : ∀ e : Fin Q, (if (si (ix2 e (0 : Fin 2))).toInt = a.val ∧ (si (ix2 e (1 : Fin 2))).toInt = n.val then ones (ix1 e) else 0)
      = if e = a then (if (p a).toInt = n.val ∧ a.val < K then (1 : EReal) else 0) else 0 := by
    intro e
    rw [h0, h1, ho]
    by_cases q : e = a
    · subst q
      rw [if_pos rfl]
      by_cases c : (p e).toInt = n.val
      · rw [if_pos ⟨rfl, c⟩]
        exact if_congr ⟨fun t => ⟨c, t⟩, And.right⟩ rfl rfl
      · rw [if_neg fun t => c t.2, if_neg fun t => c t.1]
    · rw [if_neg q, if_neg fun t => q (Fin.ext (by have := t.1; omega))]
  rw [Finset.sum_congr rfl fun e _ => term e, Finset.sum_ite_eq' Finset.univ a, if_pos (Finset.mem_univ _)]
  by_cases h : a.val < K
  · have k := s.kept ⟨a.val, h⟩ a rfl
    have hlt := (sel ⟨a.val, h⟩).isLt
    have w : min (p a).toInt.toNat (P - 1) = (sel ⟨a.val, h⟩).val := by omega
    rw [dif_pos h]
    unfold looped
    refine congrArg₂ (fun x y => padded S x n.val + y) w (if_congr ?_ rfl rfl)
    rw [k]
    exact ⟨fun t => by have := t.1; omega, fun t => ⟨by omega, h⟩⟩
  · have k := s.fill a (by omega)
    have w : N ≤ min (p a).toInt.toNat (P - 1) := by omega
    rw [dif_neg h, if_neg fun t => h t.2, add_zero]
    unfold padded
    exact dif_neg fun t => absurd t.1 (by show ¬ min (p a).toInt.toNat (P - 1) < N; omega)

/-- The product of two such factors, its diagonal cleared. -/
theorem product_at (hN : N ≤ P) (hs : Function.Injective sel) {L R : Fin Q → Fin P → EReal}
    (hL : ∀ a n, L a n = if h : a.val < K then looped S (sel ⟨a.val, h⟩).val n.val else 0)
    (hR : ∀ b n, R b n = if h : b.val < K then looped S n.val (sel ⟨b.val, h⟩).val else 0) (a b : Fin Q) :
    Blocked.entry L R a b = if h : a.val < K ∧ b.val < K then squared S (sel ⟨a.val, h.1⟩) (sel ⟨b.val, h.2⟩) else 0 := by
  unfold Blocked.entry
  by_cases ha : a.val < K
  · by_cases hb : b.val < K
    · rw [dif_pos ⟨ha, hb⟩]
      unfold squared
      have e : a = b ↔ sel ⟨a.val, ha⟩ = sel ⟨b.val, hb⟩ := by
        rw [hs.eq_iff, Fin.ext_iff, Fin.ext_iff]
      refine if_congr e rfl ?_
      obtain ⟨r, rfl⟩ : ∃ r, P = N + r := ⟨P - N, by omega⟩
      have t := Fin.sum_univ_add (a := N) (b := r) fun n => L a n * R b n
      refine t.trans ?_
      rw [Finset.sum_eq_zero (s := Finset.univ (α := Fin r)) fun n _ => ?_, add_zero]
      · refine Finset.sum_congr rfl fun n _ => ?_
        rw [hL, hR, dif_pos ha, dif_pos hb]
        rfl
      · rw [hL, dif_pos ha, looped_none S _ _ (by simp), zero_mul]
    · rw [dif_neg fun k => hb k.2]
      have z : ∀ n, R b n = 0 := fun n => (hR b n).trans (dif_neg hb)
      simp only [z, mul_zero, Finset.sum_const_zero, ite_self]
  · rw [dif_neg fun k => ha k.1]
    have z : ∀ n, L a n = 0 := fun n => (hL a n).trans (dif_neg ha)
    simp only [z, zero_mul, Finset.sum_const_zero, ite_self]

end Cert.Pool

end
-- ==== Proof.Factor2.lean ====
/- The two arrays the call at the second level reads: rows of the first level's adjacency and of its transpose, with loops. -/
module

public import proofs.«01_k».proof.Proof.Gen.Kernel2Ideal.Frame.Runs
public import proofs.«01_k».proof.Proof.Pool
public import Idealize.ShloMosaic.Lib.StableHlo.ReadAt

@[expose] public section

set_option maxRecDepth 16384

noncomputable section

namespace Cert.Kernel2Ideal.Prefix

open Cert.Kernel2Ideal Cert.Kernel2Ideal.Gen Cert.Place
open Idealize.ShloMosaic Idealize.ShloMosaic.TcCoe Idealize.SL.Sem

/-- One number for every place of the selection. -/
def forPlaces (k : BitVec 32) : IVec S2560 32 := broadcastInDim S2560 ![] bcast_S_S2560 (constantI S_ 32 k)

/-- An index counted from the end, `k` of them, where it is negative. -/
def placeIndex (k : BitVec 32) (w : IVec S2560 32) : IVec S2560 32 :=
  select (cmpi .slt w (forPlaces 0#32)) (addi w (forPlaces k)) w

/-- A column of index words. -/
def column (a : IVec S2560 32) : IVec S2560x1 32 := broadcastInDim S2560x1 ![0] bcast_S2560_S2560x1_0 a

/-- Two columns of index words side by side. -/
def placePairs (a b : IVec S2560 32) : IVec S2560x2 32 :=
  concatenate S2560x2 1 [⟨S2560x1, column a⟩, ⟨S2560x1, column b⟩] concatenates_S2560x1_S2560x1_S2560x2_d1

/-- What each place of the selection adds: one for the first 2500. -/
def placeOnes : FVec Ideal S2560 .f32 :=
  select (cmpi .slt (iotaInDim S2560 32 0) (forPlaces 2500#32))
    (broadcastInDim S2560 ![] bcast_S_S2560 (constant S_ .f32 0x3F800000#32))
    (broadcastInDim S2560 ![] bcast_S_S2560 (constant S_ .f32 0#32))

/-- A factor: the selected rows of a matrix, one added in each kept row at its node. -/
def factor (x : FVec Ideal S5120x5120 .f32) (p : IVec S2560 32) : FVec Ideal S2560x5120 .f32 :=
  Host.scatterAdd scatter_S2560x5120_S2560x2_S2560_n_01_01_1
    (Host.gather gather_S5120x5120_S2560x1_S2560x5120_1_0_n_n_0_1_15120 x (column (placeIndex 5120#32 p)))
    (placePairs (placeIndex 2560#32 (iotaInDim S2560 32 0)) (placeIndex 5120#32 p)) placeOnes

/-- The adjacency with 120 rows and columns of zeros after it. -/
def wide (x : FVec Ideal S5000x5000 .f32) : FVec Ideal S5120x5120 .f32 :=
  pad S5120x5120 ![0, 0] ![120, 120] ![0, 0] x (sitofp .f32 (constantI S_ 32 0#32) : FVec Ideal S_ .f32)
    pads_S5000x5000_S5120x5120_01200_01200 h_S_

/-- The same, transposed. -/
def wideT (x : FVec Ideal S5000x5000 .f32) : FVec Ideal S5120x5120 .f32 :=
  transpose S5120x5120 [1, 0] (wide x) transposes_S5120x5120_S5120x5120_1_0

variable (m : (ℓ : Loc nD τ sig) → Buf (Elt Ideal) ℓ)

/-- The adjacency the call is given. -/
abbrev adjacency (c : Dev nD) : FVec Ideal S5000x5000 .f32 := m ((c : Thread nD τ).loc main_arg0)

/-- The selection it is given. -/
abbrev picks (c : Dev nD) : IVec S2560 32 := m ((c : Thread nD τ).loc main_arg1)

theorem place_pairs (a b : IVec S2560x1 32) (a' b' : IVec S2560 32) (ha : a = column a') (hb : b = column b') :
    concatenate S2560x2 1 [⟨S2560x1, a⟩, ⟨S2560x1, b⟩] concatenates_S2560x1_S2560x1_S2560x2_d1 = placePairs a' b' := by
  subst ha hb
  rfl

/-- The left array at an index. -/
theorem left_is (c : Dev nD) (a : Fin 2560) (n : Fin 5120) :
    (show FVec Ideal S2560x5120 .bf16 from V m c main_v56) (ix2 a n) = factor (wide (adjacency m c)) (picks m c) (ix2 a n) := by
  unfold V
  after_reads_at
  unfold factor
  refine congrFun (congrArg (fun y => Host.scatterAdd scatter_S2560x5120_S2560x2_S2560_n_01_01_1 _ y _) (place_pairs _ _ _ _ ?_ ?_)) _
  all_goals after_reads_at
  all_goals rfl

/-- The right array at an index. -/
theorem right_is (c : Dev nD) (a : Fin 2560) (n : Fin 5120) :
    (show FVec Ideal S2560x5120 .bf16 from V m c main_v57) (ix2 a n) = factor (wideT (adjacency m c)) (picks m c) (ix2 a n) := by
  unfold V
  after_reads_at
  unfold factor
  refine congrFun (congrArg (fun y => Host.scatterAdd scatter_S2560x5120_S2560x2_S2560_n_01_01_1 _ y _) (place_pairs _ _ _ _ ?_ ?_)) _
  all_goals after_reads_at
  all_goals rfl

/-- The wide adjacency at an index. -/
theorem wide_at (x : FVec Ideal S5000x5000 .f32) (a n : Fin 5120) :
    wide x (ix2 a n) = Pool.padded (fun r k : Fin 5000 => x (ix2 r k)) a.val n.val := by
  have z : (FloatOps.sitofp .f32 0#32 : Ideal .f32) = 0 := by
    show (((0#32 : BitVec 32).toInt : ℝ) : EReal) = 0
    norm_num
  unfold Pool.padded
  pointwise [wide]
  rw [z]

theorem wideT_at (x : FVec Ideal S5000x5000 .f32) (a n : Fin 5120) :
    wideT x (ix2 a n) = Pool.padded (fun r k : Fin 5000 => x (ix2 k r)) a.val n.val := by
  have t : wideT x (ix2 a n) = wide x (ix2 n a) := by
    unfold wideT
    pointwise
  rw [t, wide_at]
  unfold Pool.padded
  by_cases h : n.val < 5000 ∧ a.val < 5000
  · rw [dif_pos h, dif_pos h.symm]
  · rw [dif_neg h, dif_neg fun k => h k.symm]

theorem placeIndex_at (k : BitVec 32) (w : IVec S2560 32) (a : Fin 2560) (b : ℕ) (h : (w (ix1 a)).toInt = (b : ℤ)) :
    placeIndex k w (ix1 a) = w (ix1 a) :=
  not_wrapped (w (ix1 a)) k b h

theorem column_at (w : IVec S2560 32) (a : Fin 2560) : column w (ix2 a (0 : Fin 1)) = w (ix1 a) := by
  pointwise [column]

theorem placePairs_0 (a b : IVec S2560 32) (k : Fin 2560) : placePairs a b (ix2 k (0 : Fin 2)) = a (ix1 k) := by
  pointwise [placePairs, column]

theorem placePairs_1 (a b : IVec S2560 32) (k : Fin 2560) : placePairs a b (ix2 k (1 : Fin 2)) = b (ix1 k) := by
  pointwise [placePairs, column]

theorem iota_at (k : Fin 2560) : ((iotaInDim S2560 32 0 : IVec S2560 32) (ix1 k)).toInt = (k.val : ℤ) := by
  have hk := k.isLt
  show (BitVec.ofNat 32 k.val).toInt = _
  exact StableHlo.Predicate.toInt_ofNat_small k.val (by omega)

/-- What a place adds. -/
theorem placeOnes_at (a : Fin 2560) : placeOnes (ix1 a) = if a.val < 2500 then 1 else 0 := by
  have t : placeOnes (ix1 a) = Scalar.select (IntOp.cmpi .slt (BitVec.ofNat 32 a.val) 2500#32) (1 : EReal) 0 := by
    pointwise [placeOnes, forPlaces]
  have k := iota_at a
  have k' : (BitVec.ofNat 32 a.val).toInt = (a.val : ℤ) := k
  rw [t, WordCmp.cmpi_slt_eq, WordCmp.ofBool_decide_eq_ite, k']
  by_cases h : a.val < 2500
  · rw [if_pos (by simpa using h), if_pos h, WordCmp.select_of_eq_one rfl]
  · rw [if_neg (by simpa using h), if_neg h, WordCmp.select_of_eq_zero rfl]

variable {p : IVec S2560 32} {sel : Fin 2500 → Fin 5000}

/-- A factor at an index, where its matrix holds an adjacency with zeros after it. -/
theorem factor_is (S : Fin 5000 → Fin 5000 → EReal) (x : FVec Ideal S5120x5120 .f32)
    (hx : ∀ a n : Fin 5120, x (ix2 a n) = Pool.padded S a.val n.val) (s : Pool.Selects (fun a : Fin 2560 => p (ix1 a)) sel) (a : Fin 2560) (n : Fin 5120) :
    factor x p (ix2 a n) = if h : a.val < 2500 then Pool.looped S (sel ⟨a.val, h⟩).val n.val else 0 := by
  have w : ∀ a : Fin 2560, placeIndex 5120#32 p (ix1 a) = p (ix1 a) := fun a => by
    by_cases h : a.val < 2500
    · exact placeIndex_at _ _ a _ (s.kept ⟨a.val, h⟩ a rfl)
    · have k : (5000 : ℤ) ≤ (p (ix1 a)).toInt := s.fill a (by omega)
      exact placeIndex_at _ _ a (p (ix1 a)).toInt.toNat (by omega)
  exact Pool.factor_at (by decide) _ _ x _ _ _ s hx (fun a => (column_at _ a).trans (w a))
    (fun e => by rw [placePairs_0, placeIndex_at _ _ e e.val (iota_at e), iota_at]) (fun e => (placePairs_1 _ _ e).trans (w e)) placeOnes_at a n

end Cert.Kernel2Ideal.Prefix

end
-- ==== Proof.Network2.lean ====
/- The second reference's results at an index, where the adjacency's diagonal is zero and the first 2500 selected are different nodes. -/
module

public import proofs.«01_k».proof.Proof.Gen.Reference2Ideal.Run
public import proofs.«01_k».proof.Proof.Pool

@[expose] public section

set_option maxRecDepth 16384

noncomputable section

namespace Cert.Reference2Ideal.Network

open Cert.Reference2Ideal Cert.Reference2Ideal.Gen Cert.Place
open Idealize.ShloMosaic Idealize.ShloMosaic.TcCoe Idealize.SL.Sem

/-- The identity matrix. -/
def eye : FVec Ideal S5000x5000 .f32 :=
  uitofp .f32 (cmpi .eq (addi (iotaInDim S5000x5000 32 0) (broadcastInDim S5000x5000 ![] bcast_S_S5000x5000 (constantI S_ 32 0#32)))
    (iotaInDim S5000x5000 32 1))

/-- Ones off the diagonal. -/
def offDiagonal : FVec Ideal S5000x5000 .f32 :=
  subf (broadcastInDim S5000x5000 ![] bcast_S_S5000x5000 (constant S_ .f32 0x3F800000#32)) eye

/-- The adjacency with one loop at each node. -/
def looped (s : FVec Ideal S5000x5000 .f32) : FVec Ideal S5000x5000 .f32 := addf (mulf s offDiagonal) eye

/-- Its square, without the diagonal. -/
def squared (s : FVec Ideal S5000x5000 .f32) : FVec Ideal S5000x5000 .f32 :=
  mulf (Host.dotGeneral dot_S5000x5000_S5000x5000_S5000x5000_1_0_0_1_n_n none (looped s) (looped s)) offDiagonal

/-- The nodes that are kept, as index words. -/
def keptWords (p : IVec S2560 32) : IVec S2500x1 32 :=
  broadcastInDim S2500x1 ![0] bcast_S2500_S2500x1_0
    (select (cmpi .slt (extractStridedSlice S2500 ![0] p slices_S2560_S2500_0) (broadcastInDim S2500 ![] bcast_S_S2500 (constantI S_ 32 0#32)))
      (addi (extractStridedSlice S2500 ![0] p slices_S2560_S2500_0) (broadcastInDim S2500 ![] bcast_S_S2500 (constantI S_ 32 5000#32)))
      (extractStridedSlice S2500 ![0] p slices_S2560_S2500_0))

/-- The squared adjacency between the kept nodes. -/
def between (s : FVec Ideal S5000x5000 .f32) (p : IVec S2560 32) : FVec Ideal S2500x2500 .f32 :=
  Host.gather gather_S2500x5000_S2500x1_S2500x2500_0_1_n_n_1_1_25001
    (Host.gather gather_S5000x5000_S2500x1_S2500x5000_1_0_n_n_0_1_15000 (squared s) (keptWords p)) (keptWords p)

/-- The same with 60 rows and columns of zeros after it. -/
def pooled (s : FVec Ideal S5000x5000 .f32) (p : IVec S2560 32) : FVec Ideal S2560x2560 .f32 :=
  pad S2560x2560 ![0, 0] ![60, 60] ![0, 0] (between s p) (sitofp .f32 (constantI S_ 32 0#32) : FVec Ideal S_ .f32)
    pads_S2500x2500_S2560x2560_0600_0600 h_S_

/-- Its columns. -/
def turned (s : FVec Ideal S5000x5000 .f32) (p : IVec S2560 32) : FVec Ideal S2560x2560 .f32 :=
  transpose S2560x2560 [1, 0] (pooled s p) transposes_S2560x2560_S2560x2560_1_0

/-- Its columns' sums. -/
def sums (s : FVec Ideal S5000x5000 .f32) (p : IVec S2560 32) : FVec Ideal S1x2560 .f32 :=
  broadcastInDim S1x2560 ![1] bcast_S2560_S1x2560_1
    (Host.reduceAdd (pooled s p) (constant S_ .f32 0x00000000#32) reducesTo_S2560x2560_S2560_d0 h_S_)

/-- The identity at row `r`, column `k`. -/
theorem eye_at (r k : Fin 5000) : eye (ix2 r k) = if r = k then 1 else 0 := by
  pointwise [eye]
  have hr := r.isLt
  have hk := k.isLt
  show (((IntOp.cmpi .eq (IntOp.addi (BitVec.ofNat 32 r.val) (BitVec.ofNat 32 0)) (BitVec.ofNat 32 k.val)).toNat : ℝ) : EReal) = _
  exact (one_where_same r.val k.val (by omega) (by omega)).trans (if_congr Fin.ext_iff.symm rfl rfl)

variable {s : FVec Ideal S5000x5000 .f32} {p : IVec S2560 32} {sel : Fin 2500 → Fin 5000}

/-- The adjacency with loops at row `r`, column `k`. -/
theorem looped_at (h : ∀ r : Fin 5000, s (ix2 r r) = 0) (r k : Fin 5000) :
    looped s (ix2 r k) = Pool.looped (fun r k : Fin 5000 => s (ix2 r k)) r.val k.val := by
  have t : looped s (ix2 r k) = s (ix2 r k) * (1 - eye (ix2 r k)) + eye (ix2 r k) := by
    pointwise [looped, offDiagonal]
  rw [t, eye_at, Pool.cleared_and_set _ (r = k) (by rintro rfl; exact h r)]
  unfold Pool.looped Pool.padded
  rw [dif_pos ⟨r.isLt, k.isLt⟩]
  exact congrArg _ (if_congr Fin.ext_iff rfl rfl)

/-- The squared adjacency at row `r`, column `k`. -/
theorem squared_at (h : ∀ r : Fin 5000, s (ix2 r r) = 0) (r k : Fin 5000) :
    squared s (ix2 r k) = Pool.squared (fun r k : Fin 5000 => s (ix2 r k)) r k := by
  have t : squared s (ix2 r k) = (∑ n : Fin 5000, looped s (ix2 r n) * looped s (ix2 n k)) * (1 - eye (ix2 r k)) := by
    pointwise [squared, offDiagonal]
  unfold Pool.squared
  rw [t, eye_at]
  by_cases q : r = k
  · have o : (1 : EReal) - 1 = 0 := by simpa using EReal.sub_self (x := 1) (by decide) (by decide)
    rw [if_pos q, if_pos q, o, mul_zero]
  · rw [if_neg q, if_neg q, sub_zero, mul_one]
    exact Finset.sum_congr rfl fun n _ => by rw [looped_at h, looped_at h]

theorem keptWords_at (i : Fin 2500) (h : Pool.Selects (fun a : Fin 2560 => p (ix1 a)) sel) :
    (keptWords p (ix2 i (0 : Fin 1))).toInt = (sel i).val := by
  have t : keptWords p (ix2 i (0 : Fin 1)) = Scalar.select (IntOp.cmpi .slt (p (ix1 (⟨i.val, by omega⟩ : Fin 2560))) 0#32)
      (IntOp.addi (p (ix1 (⟨i.val, by omega⟩ : Fin 2560))) 5000#32) (p (ix1 (⟨i.val, by omega⟩ : Fin 2560))) := by
    pointwise [keptWords]
  have k : (p (ix1 (⟨i.val, by omega⟩ : Fin 2560))).toInt = (sel i).val := h.kept i ⟨i.val, by omega⟩ rfl
  rw [t, not_wrapped _ _ _ k, k]

/-- Between two kept nodes. -/
theorem between_at (h : Pool.Selects (fun a : Fin 2560 => p (ix1 a)) sel) (i j : Fin 2500) :
    between s p (ix2 i j) = squared s (ix2 (sel i) (sel j)) := by
  unfold between
  refine (column_taken _ _ _ i j (sel j) (keptWords_at j h)).trans ?_
  exact row_taken _ rfl rfl rfl rfl rfl _ _ i (sel j) (sel i) (keptWords_at i h) (by decide)

/-- The pooled adjacency at row `a`, column `b`. -/
theorem pooled_at (hs : ∀ r : Fin 5000, s (ix2 r r) = 0) (hp : Pool.Selects (fun a : Fin 2560 => p (ix1 a)) sel) (a b : Fin 2560) :
    pooled s p (ix2 a b) = if h : a.val < 2500 ∧ b.val < 2500
      then Pool.squared (fun r k : Fin 5000 => s (ix2 r k)) (sel ⟨a.val, h.1⟩) (sel ⟨b.val, h.2⟩) else 0 := by
  have z : (FloatOps.sitofp .f32 0#32 : Ideal .f32) = 0 := by
    show (((0#32 : BitVec 32).toInt : ℝ) : EReal) = 0
    norm_num
  have t : pooled s p (ix2 a b) = if h : a.val < 2500 ∧ b.val < 2500
      then between s p (ix2 (⟨a.val, h.1⟩ : Fin 2500) (⟨b.val, h.2⟩ : Fin 2500)) else 0 := by
    pointwise [pooled]
    rw [z]
  rw [t]
  by_cases h : a.val < 2500 ∧ b.val < 2500
  · rw [dif_pos h, dif_pos h, between_at hp, squared_at hs]
  · rw [dif_neg h, dif_neg h]

theorem turned_at (s : FVec Ideal S5000x5000 .f32) (p : IVec S2560 32) (a b : Fin 2560) : turned s p (ix2 b a) = pooled s p (ix2 a b) := by
  pointwise [turned]

theorem sums_at (s : FVec Ideal S5000x5000 .f32) (p : IVec S2560 32) (z : Fin 1) (b : Fin 2560) :
    sums s p (ix2 z b) = ∑ a : Fin 2560, pooled s p (ix2 a b) := by
  pointwise [sums]

variable (m : (ℓ : Loc nD τ sig) → Buf (Elt Ideal) ℓ)

/-- The adjacency the reference is given. -/
abbrev adjacency (c : Dev nD) : FVec Ideal S5000x5000 .f32 := m ((c : Thread nD τ).loc main_arg0)

/-- The selection it is given. -/
abbrev picks (c : Dev nD) : IVec S2560 32 := m ((c : Thread nD τ).loc main_arg1)

/-- The reference's run: its three results, its arguments unchanged. -/
theorem results (ρ : Dev nD → PrngReg) : θ_run (defs (F := Ideal)) (onTc (τ := τ) (main (F := Ideal))) ⟨m, fun _ => 0, ρ⟩ fun r => ∀ c : Dev nD,
    r.2.mem ((c.tc : Thread nD τ).loc main_v29) = pooled (adjacency m c) (picks m c)
    ∧ r.2.mem ((c.tc : Thread nD τ).loc main_v30) = turned (adjacency m c) (picks m c)
    ∧ r.2.mem ((c.tc : Thread nD τ).loc main_v32) = sums (adjacency m c) (picks m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1, (h c).2.1, (h c).2.2.1, (h c).2.2.2⟩) (Value.run (F := Ideal) m ρ)

end Cert.Reference2Ideal.Network

end
-- ==== Proof.Equation2.lean ====
/- At the second level: the call's three results and the reference's are the same arrays. -/
module

public import proofs.«01_k».proof.Defs
public import proofs.«01_k».proof.Proof.Arrays2
public import proofs.«01_k».proof.Proof.Factor2
public import proofs.«01_k».proof.Proof.Network2

@[expose] public section

set_option maxRecDepth 16384

noncomputable section

/-! ## What the precondition says -/

namespace Cert.Pre_adjacency_and_selection

open Idealize.ShloMosaic

theorem sides : Facts where
  slices_S2560_S2500_0 := by decide
  slices_S2560_S60_2500 := by decide
  bcast_S_S5000x5000 := by decide
  bcast_S_S2500 := by decide
  bcast_S2500_S2500x1_0 := by decide
  bcast_S2500_S1x2500_1 := by decide
  bcast_S2500x1_S2500x2500_0_1 := by decide
  bcast_S1x2500_S2500x2500_0_1 := by decide
  bcast_S_S60 := by decide

variable [hP : Facts] {s : FVec Ideal S5000x5000 .f32} {p : IVec S2560 32}

/-- No node is its own neighbour. -/
theorem diagonal (h : (fn (F := Ideal) s p).1 = fun _ => 1#1) (r : Fin 5000) : s (ix2 r r) = 0 := by
  have t := congrFun h (ix2 r r)
  have e : (fn (F := Ideal) s p).1 (ix2 r r) = IntOp.ori (Ideal.cmp .oeq (s (ix2 r r)) 0) (IntOp.cmpi .ne (BitVec.ofNat 32 r.val) (BitVec.ofNat 32 r.val)) := by
    unfold fn fn_part1
    pointwise
  have bits : ∀ a : Bool, IntOp.ori (BitVec.ofBool a) (BitVec.ofBool false) = 1#1 → a = true := by decide
  rw [e, WordCmp.cmpi_ne_eq, decide_eq_false (by simp)] at t
  exact of_decide_eq_true (bits _ t)

/-- The kept words are nodes. -/
theorem kept_bound (h : (fn (F := Ideal) s p).2.1 = fun _ => 1#1) (i : Fin 2500) :
    0 ≤ (p (ix1 (⟨i.val, by omega⟩ : Fin 2560))).toInt ∧ (p (ix1 (⟨i.val, by omega⟩ : Fin 2560))).toInt < 5000 := by
  have t := congrFun h (ix1 i)
  refine Place.within _ 0#32 5000#32 (Eq.trans ?_ t)
  unfold fn fn_part1
  pointwise

/-- They are pairwise different. -/
theorem kept_apart (h : (fn (F := Ideal) s p).2.2.1 = fun _ => 1#1) (i j : Fin 2500)
    (q : p (ix1 (⟨i.val, by omega⟩ : Fin 2560)) = p (ix1 (⟨j.val, by omega⟩ : Fin 2560))) : i = j := by
  have t := congrFun h (ix2 i j)
  refine Fin.ext (Place.same_of_apart _ _ i.val j.val q (by omega) (by omega) (Eq.trans ?_ t))
  unfold fn fn_part1
  pointwise

/-- The words after them name none of the nodes. -/
theorem fill_bound (h : (fn (F := Ideal) s p).2.2.2 = fun _ => 1#1) (i : Fin 2560) (hi : 2500 ≤ i.val) :
    5000 ≤ (p (ix1 i)).toInt := by
  have t := congrFun h (ix1 (⟨i.val - 2500, by omega⟩ : Fin 60))
  have e : (fn (F := Ideal) s p).2.2.2 (ix1 (⟨i.val - 2500, by omega⟩ : Fin 60))
      = IntOp.cmpi .sge (p (ix1 (⟨2500 + (i.val - 2500), by omega⟩ : Fin 2560))) 5000#32 := by
    unfold fn fn_part1
    pointwise
  have k : (⟨2500 + (i.val - 2500), by omega⟩ : Fin 2560) = i := Fin.ext (show 2500 + (i.val - 2500) = i.val by omega)
  rw [e, k, WordCmp.cmpi_sge_eq, WordCmp.ofBool_decide_eq_one_iff] at t
  exact t

/-- The precondition, read as nodes. -/
theorem read (h1 : (fn (F := Ideal) s p).2.1 = fun _ => 1#1) (h2 : (fn (F := Ideal) s p).2.2.1 = fun _ => 1#1) (h3 : (fn (F := Ideal) s p).2.2.2 = fun _ => 1#1) :
    ∃ sel : Fin 2500 → Fin 5000, Pool.Selects (fun a : Fin 2560 => p (ix1 a)) sel :=
  Pool.selects_of _ (by decide) (fun i => kept_bound h1 i) (fun i j q => kept_apart h2 i j q) (fun i hi => fill_bound h3 i hi)

end Cert.Pre_adjacency_and_selection

/-! ## The equation -/

namespace Cert.Equation2

open Idealize.ShloMosaic Idealize.ShloMosaic.TcCoe Idealize.SL.Sem Cert.Place
open Cert.Kernel2Ideal.Prefix (adjacency picks)
open Cert.Kernel2Ideal.Fold (left right entry)
open Cert.Reference2Ideal.Network (pooled turned sums)

variable (m : (ℓ : Loc Kernel2Ideal.nD Kernel2Ideal.τ Kernel2Ideal.sig) → Buf (Elt Ideal) ℓ) (c : Dev Kernel2Ideal.nD)
variable {sel : Fin 2500 → Fin 5000}

/-- An entry of the call's first result is the reference's. -/
theorem entry_is (hs : ∀ r : Fin 5000, adjacency m c (ix2 r r) = 0) (hp : Pool.Selects (fun a : Fin 2560 => picks m c (ix1 a)) sel) (a b : Fin 2560) :
    entry m c a b = pooled (adjacency m c) (picks m c) (ix2 a b) := by
  refine Eq.trans ?_ (Reference2Ideal.Network.pooled_at hs hp a b).symm
  refine Pool.product_at (by decide) hp.distinct (fun a n => ?_) (fun b n => ?_) a b
  · exact (Kernel2Ideal.Prefix.left_is m c a n).trans (Kernel2Ideal.Prefix.factor_is _ _ (Kernel2Ideal.Prefix.wide_at _) hp a n)
  · refine (Kernel2Ideal.Prefix.right_is m c b n).trans ((Kernel2Ideal.Prefix.factor_is _ _ (Kernel2Ideal.Prefix.wideT_at _) hp b n).trans ?_)
    by_cases h : b.val < 2500
    · rw [dif_pos h, dif_pos h]
      exact Pool.looped_swap (fun r k : Fin 5000 => adjacency m c (ix2 r k)) _ _
    · rw [dif_neg h, dif_neg h]

variable (hs : ∀ r : Fin 5000, adjacency m c (ix2 r r) = 0) (hp : Pool.Selects (fun a : Fin 2560 => picks m c (ix1 a)) sel)
include hs hp

/-- The first results are equal. -/
theorem first_is : pooled (adjacency m c) (picks m c) = Kernel2Ideal.Value.G2 m c := by
  refine funext fun j => ?_
  obtain ⟨a, b, rfl⟩ : ∃ a b : Fin 2560, j = ix2 a b := ⟨j 0, j 1, eq_ix2 j⟩
  rw [Kernel2Ideal.Fold.first, entry_is m c hs hp]

/-- The second results are equal. -/
theorem second_is : turned (adjacency m c) (picks m c) = Kernel2Ideal.Value.G3 m c := by
  refine funext fun j => ?_
  obtain ⟨b, a, rfl⟩ : ∃ b a : Fin 2560, j = ix2 b a := ⟨j 0, j 1, eq_ix2 j⟩
  rw [Kernel2Ideal.Fold.second, entry_is m c hs hp, Reference2Ideal.Network.turned_at]

/-- The third results are equal. -/
theorem third_is : sums (adjacency m c) (picks m c) = Kernel2Ideal.Value.G4 m c := by
  refine funext fun j => ?_
  obtain ⟨z, b, rfl⟩ : ∃ (z : Fin 1) (b : Fin 2560), j = ix2 z b := ⟨j 0, j 1, eq_ix2 j⟩
  rw [Kernel2Ideal.Fold.third, Finset.sum_congr rfl fun a _ => entry_is m c hs hp a b]
  exact Reference2Ideal.Network.sums_at _ _ z b

end Cert.Equation2

end
-- ==== Proof.Region3.lean ====
/- The two arrays the last convolution's call writes, element by element, from whatever the buffers hold when it is entered. -/
module

public import proofs.«01_k».proof.Proof.Gen.Kernel3Ideal.Frame
public import Idealize.ShloMosaic.Lib.Pipeline.Value
public import Idealize.ShloMosaic.Lib.Pipeline.ValueKit

@[expose] public section

set_option maxRecDepth 16384

noncomputable section

namespace Cert.Kernel3Ideal.Last

open Cert.Kernel3Ideal Cert.Kernel3Ideal.Gen Idealize.ShloMosaic Idealize.ShloMosaic.TcCoe Idealize.SL.Sem

/-! ## The body -/

/-- The first result's block: the features times the weights, each row scaled. -/
theorem scaled_block (x : Vec Ideal S512x256 .f32) (w : Vec Ideal S256x128 .f32) (n : Vec Ideal S512x1 .f32) (j : S512x128.Idx) :
    k1_pay2 (F := Ideal) x w n j = n (ix2 (j 0) (0 : Fin 1)) * ∑ k : Fin 256, x (ix2 (j 0) k) * w (ix2 k (j 1)) := by
  pointwise [k1_pay2, k1_pay1]

/-- The second result's block: the first's, scaled again and with the bias added. -/
theorem own_block (x : Vec Ideal S512x256 .f32) (w : Vec Ideal S256x128 .f32) (n l : Vec Ideal S512x1 .f32) (b : Vec Ideal S1x128 .f32) (j : S512x128.Idx) :
    k1_pay3 (F := Ideal) x w n l b j
      = l (ix2 (j 0) (0 : Fin 1)) * n (ix2 (j 0) (0 : Fin 1)) * k1_pay2 (F := Ideal) x w n j + b (ix2 (0 : Fin 1) (j 1)) := by
  pointwise [k1_pay3, k1_pay1]

variable (V : (c : Dev nD) → (b : Ref sig .tc) → Buf (Elt Ideal) ((c : Thread nD τ).loc b))

/-! ## The arrays it reads -/

/-- The features. -/
abbrev feats (c : Dev nD) : FVec Ideal S10240x256 .f32 := V c (Pipeline.arrRef spec1 0)

/-- The weights. -/
abbrev weights (c : Dev nD) : FVec Ideal S256x128 .f32 := V c (Pipeline.arrRef spec1 1)

/-- The bias, as a row. -/
abbrev bias (c : Dev nD) : FVec Ideal S1x128 .f32 := V c (Pipeline.arrRef spec1 2)

/-- The reciprocal roots of the degrees, as a column. -/
abbrev norms (c : Dev nD) : FVec Ideal S10240x1 .f32 := V c (Pipeline.arrRef spec1 3)

/-- The weights of the loops, as a column. -/
abbrev loops (c : Dev nD) : FVec Ideal S10240x1 .f32 := V c (Pipeline.arrRef spec1 4)

theorem points (t : Fin cfg1.N) : t.val < 20 := lt_of_lt_of_eq t.isLt N_1

/-- Point `t` reads and writes block `t` of the arrays cut into blocks of rows, and all of the other two. -/
theorem places : ∀ t : Fin cfg1.N, (win1_0.index t (0 : Fin 2) = t.val ∧ win1_0.index t (1 : Fin 2) = 0)
    ∧ (win1_1.index t (0 : Fin 2) = 0 ∧ win1_1.index t (1 : Fin 2) = 0) ∧ (win1_2.index t (0 : Fin 2) = 0 ∧ win1_2.index t (1 : Fin 2) = 0)
    ∧ (win1_3.index t (0 : Fin 2) = t.val ∧ win1_3.index t (1 : Fin 2) = 0) ∧ (win1_4.index t (0 : Fin 2) = t.val ∧ win1_4.index t (1 : Fin 2) = 0)
    ∧ (win1_5.index t (0 : Fin 2) = t.val ∧ win1_5.index t (1 : Fin 2) = 0) ∧ win1_6.index t (0 : Fin 2) = t.val ∧ win1_6.index t (1 : Fin 2) = 0 :=
  (by decide +kernel : ∀ t : Fin grid1.N, _)

theorem feats_block (c : Dev nD) (t : Fin cfg1.N) (r : Fin 512) (k : Fin 256) :
    (show Vec Ideal S512x256 .f32 from iblk1 V c 0 t) (ix2 r k) = feats V c (ix2 ⟨t.val * 512 + r.val, by have := points t; omega⟩ k) := by
  have h := (places t).1
  show V c (Pipeline.arrRef spec1 0) (((cfg1.win 0).blk t).view.emb (ix2 r k)) = _
  refine congrArg (V c (Pipeline.arrRef spec1 0)) ?_
  blk_ext [h.1, h.2]

theorem weights_block (c : Dev nD) (t : Fin cfg1.N) (k : Fin 256) (f : Fin 128) :
    (show Vec Ideal S256x128 .f32 from iblk1 V c 1 t) (ix2 k f) = weights V c (ix2 k f) := by
  have h := (places t).2.1
  show V c (Pipeline.arrRef spec1 1) (((cfg1.win 1).blk t).view.emb (ix2 k f)) = _
  refine congrArg (V c (Pipeline.arrRef spec1 1)) ?_
  blk_ext [h.1, h.2]

theorem bias_block (c : Dev nD) (t : Fin cfg1.N) (f : Fin 128) :
    (show Vec Ideal S1x128 .f32 from iblk1 V c 2 t) (ix2 (0 : Fin 1) f) = bias V c (ix2 (0 : Fin 1) f) := by
  have h := (places t).2.2.1
  show V c (Pipeline.arrRef spec1 2) (((cfg1.win 2).blk t).view.emb (ix2 (0 : Fin 1) f)) = _
  refine congrArg (V c (Pipeline.arrRef spec1 2)) ?_
  blk_ext [h.1, h.2]

theorem norms_block (c : Dev nD) (t : Fin cfg1.N) (r : Fin 512) :
    (show Vec Ideal S512x1 .f32 from iblk1 V c 3 t) (ix2 r (0 : Fin 1)) = norms V c (ix2 ⟨t.val * 512 + r.val, by have := points t; omega⟩ (0 : Fin 1)) := by
  have h := (places t).2.2.2.1
  show V c (Pipeline.arrRef spec1 3) (((cfg1.win 3).blk t).view.emb (ix2 r (0 : Fin 1))) = _
  refine congrArg (V c (Pipeline.arrRef spec1 3)) ?_
  blk_ext [h.1, h.2]

theorem loops_block (c : Dev nD) (t : Fin cfg1.N) (r : Fin 512) :
    (show Vec Ideal S512x1 .f32 from iblk1 V c 4 t) (ix2 r (0 : Fin 1)) = loops V c (ix2 ⟨t.val * 512 + r.val, by have := points t; omega⟩ (0 : Fin 1)) := by
  have h := (places t).2.2.2.2.1
  show V c (Pipeline.arrRef spec1 4) (((cfg1.win 4).blk t).view.emb (ix2 r (0 : Fin 1))) = _
  refine congrArg (V c (Pipeline.arrRef spec1 4)) ?_
  blk_ext [h.1, h.2]

/-! ## What it leaves in the arrays it writes -/

/-- The first result: the features times the weights, each row scaled. -/
def scaled (c : Dev nD) : FVec Ideal S10240x128 .f32 := fun i =>
  norms V c (ix2 (i 0) (0 : Fin 1)) * ∑ k : Fin 256, feats V c (ix2 (i 0) k) * weights V c (ix2 k (i 1))

/-- The second: the node's own term. -/
def own (c : Dev nD) : FVec Ideal S10240x128 .f32 := fun i =>
  loops V c (ix2 (i 0) (0 : Fin 1)) * norms V c (ix2 (i 0) (0 : Fin 1)) * scaled V c i + bias V c (ix2 (0 : Fin 1) (i 1))

theorem scaled_at (c : Dev nD) (t : Fin cfg1.N) (y : S512x128.Idx) :
    k1_pay2 (F := Ideal) (iblk1 V c 0 t) (iblk1 V c 1 t) (iblk1 V c 3 t) y
      = scaled V c (ix2 ⟨t.val * 512 + (y 0).val, by have := points t; have : (y 0).val < 512 := (y 0).isLt; omega⟩ (y 1)) := by
  refine (scaled_block _ _ _ y).trans (congrArg₂ (· * ·) (norms_block V c t (y 0)) (Finset.sum_congr rfl fun k _ => ?_))
  exact congrArg₂ (· * ·) (feats_block V c t (y 0) k) (weights_block V c t k (y 1))

theorem own_at (c : Dev nD) (t : Fin cfg1.N) (y : S512x128.Idx) :
    k1_pay3 (F := Ideal) (iblk1 V c 0 t) (iblk1 V c 1 t) (iblk1 V c 3 t) (iblk1 V c 4 t) (iblk1 V c 2 t) y
      = own V c (ix2 ⟨t.val * 512 + (y 0).val, by have := points t; have : (y 0).val < 512 := (y 0).isLt; omega⟩ (y 1)) := by
  refine (own_block _ _ _ _ _ y).trans (congrArg₂ (· + ·) (congrArg₂ (· * ·) (congrArg₂ (· * ·) ?_ ?_) (scaled_at V c t y)) (bias_block V c t (y 1)))
  · exact loops_block V c t (y 0)
  · exact norms_block V c t (y 0)

/-- The block of rows a node's row is in. -/
abbrev blockOf (r : ℕ) (h : r < 10240) : Fin cfg1.N := ⟨r / 512, lt_of_lt_of_eq (by omega) N_1.symm⟩

/-- A place is in the block its row's block number names. -/
theorem inside (i : S10240x128.Idx) (n : Fin 2 → ℕ) (h : n 0 = (i 0).val / 512) (h' : n 1 = 0) (a : Fin 2) :
    n a * S512x128.size a ≤ (i a).val ∧ (i a).val < n a * S512x128.size a + S512x128.size a := by
  have h1 : (i 1).val < 128 := (i 1).isLt
  match a with
  | ⟨0, _⟩ =>
    show n 0 * 512 ≤ (i 0).val ∧ (i 0).val < n 0 * 512 + 512
    omega
  | ⟨1, _⟩ =>
    show n 1 * 128 ≤ (i 1).val ∧ (i 1).val < n 1 * 128 + 128
    omega

theorem covered5 (i : S10240x128.Idx) : i ∈ ((cfg1.win 5).blk (blockOf (i 0).val (i 0).isLt)).view.set := by
  have h := (places (blockOf (i 0).val (i 0).isLt)).2.2.2.2.2.1
  show i ∈ ((View.whole main_v72_0).slice (win1_5.rect (blockOf (i 0).val (i 0).isLt))).set
  rw [View.set_slice_whole, Rect.mem_set_unit]
  exact inside i _ h.1 h.2

theorem covered6 (i : S10240x128.Idx) : i ∈ ((cfg1.win 6).blk (blockOf (i 0).val (i 0).isLt)).view.set := by
  have h := (places (blockOf (i 0).val (i 0).isLt)).2.2.2.2.2.2
  show i ∈ ((View.whole main_v72_1).slice (win1_6.rect (blockOf (i 0).val (i 0).isLt))).set
  rw [View.set_slice_whole, Rect.mem_set_unit]
  exact inside i _ h.1 h.2

/-- The first array after the call. -/
theorem scaled_is (c : Dev nD) : (dat1 V c).arrAt 5 cfg1.N = scaled V c := by
  refine (dat1 V c).arrAt_eq_of_cover 5 (scaled V c) (fun t _ => ?_) fun i => ⟨_, flush1_5 _, covered5 i⟩
  show (cfg1.win 5).cut (grid1.coords t) ((dat1 V c).after 5 t) = _
  rw [after1_5]
  funext y
  have h := (places t).2.2.2.2.2.1
  refine Eq.trans ?_ ((scaled_at V c t y).trans (congrArg (scaled V c) ?_))
  · show out1_5 _ _ _ _ _ y = _
    frame_out
  · show _ = ((cfg1.win 5).blk t).view.emb y
    blk_ext [h.1, h.2]

/-- The second. -/
theorem own_is (c : Dev nD) : (dat1 V c).arrAt 6 cfg1.N = own V c := by
  refine (dat1 V c).arrAt_eq_of_cover 6 (own V c) (fun t _ => ?_) fun i => ⟨_, flush1_6 _, covered6 i⟩
  show (cfg1.win 6).cut (grid1.coords t) ((dat1 V c).after 6 t) = _
  rw [after1_6]
  funext y
  have h := (places t).2.2.2.2.2.2
  refine Eq.trans ?_ ((own_at V c t y).trans (congrArg (own V c) ?_))
  · show out1_6 _ _ _ _ _ y = _
    frame_out
  · show _ = ((cfg1.win 6).blk t).view.emb y
    blk_ext [h.1, h.2]

end Cert.Kernel3Ideal.Last

end
-- ==== Proof.Region3First.lean ====
/- The two arrays the first convolution's call writes, element by element: as the last one's, with half as many features. -/
module

public import proofs.«01_k».proof.Proof.Region3
public import Idealize.ShloMosaic.Lib.Pipeline.Value
public import Idealize.ShloMosaic.Lib.Pipeline.ValueKit

@[expose] public section

set_option maxRecDepth 16384

noncomputable section

namespace Cert.Kernel3Ideal.First

open Cert.Kernel3Ideal Cert.Kernel3Ideal.Gen Idealize.ShloMosaic Idealize.ShloMosaic.TcCoe Idealize.SL.Sem

/-! ## The body -/

/-- The first result's block: the features times the weights, each row scaled. -/
theorem scaled_block (x : Vec Ideal S512x128 .f32) (w : Vec Ideal S128x128 .f32) (n : Vec Ideal S512x1 .f32) (j : S512x128.Idx) :
    k0_pay2 (F := Ideal) x w n j = n (ix2 (j 0) (0 : Fin 1)) * ∑ k : Fin 128, x (ix2 (j 0) k) * w (ix2 k (j 1)) := by
  pointwise [k0_pay2, k0_pay1]

/-- The second result's block: the first's, scaled again and with the bias added. -/
theorem own_block (x : Vec Ideal S512x128 .f32) (w : Vec Ideal S128x128 .f32) (n l : Vec Ideal S512x1 .f32) (b : Vec Ideal S1x128 .f32) (j : S512x128.Idx) :
    k0_pay3 (F := Ideal) x w n l b j
      = l (ix2 (j 0) (0 : Fin 1)) * n (ix2 (j 0) (0 : Fin 1)) * k0_pay2 (F := Ideal) x w n j + b (ix2 (0 : Fin 1) (j 1)) := by
  pointwise [k0_pay3, k0_pay1]

variable (V : (c : Dev nD) → (b : Ref sig .tc) → Buf (Elt Ideal) ((c : Thread nD τ).loc b))

/-! ## The arrays it reads -/

/-- The features. -/
abbrev feats (c : Dev nD) : FVec Ideal S10240x128 .f32 := V c (Pipeline.arrRef spec0 0)

/-- The weights. -/
abbrev weights (c : Dev nD) : FVec Ideal S128x128 .f32 := V c (Pipeline.arrRef spec0 1)

/-- The bias, as a row. -/
abbrev bias (c : Dev nD) : FVec Ideal S1x128 .f32 := V c (Pipeline.arrRef spec0 2)

/-- The reciprocal roots of the degrees, as a column. -/
abbrev norms (c : Dev nD) : FVec Ideal S10240x1 .f32 := V c (Pipeline.arrRef spec0 3)

/-- The weights of the loops, as a column. -/
abbrev loops (c : Dev nD) : FVec Ideal S10240x1 .f32 := V c (Pipeline.arrRef spec0 4)

theorem points (t : Fin cfg0.N) : t.val < 20 := lt_of_lt_of_eq t.isLt N_0

/-- Point `t` reads and writes block `t` of the arrays cut into blocks of rows, and all of the other two. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ win0_6.index t (0 : Fin 2) = t.val ∧ win0_6.index t (1 : Fin 2) = 0 :=
  (by decide +kernel : ∀ t : Fin grid0.N, _)

theorem feats_block (c : Dev nD) (t : Fin cfg0.N) (r : Fin 512) (k : Fin 128) :
    (show Vec Ideal S512x128 .f32 from iblk0 V c 0 t) (ix2 r k) = feats V c (ix2 ⟨t.val * 512 + r.val, by have := points t; omega⟩ k) := by
  have h := (places t).1
  show V c (Pipeline.arrRef spec0 0) (((cfg0.win 0).blk t).view.emb (ix2 r k)) = _
  refine congrArg (V c (Pipeline.arrRef spec0 0)) ?_
  blk_ext [h.1, h.2]

theorem weights_block (c : Dev nD) (t : Fin cfg0.N) (k : Fin 128) (f : Fin 128) :
    (show Vec Ideal S128x128 .f32 from iblk0 V c 1 t) (ix2 k f) = weights V c (ix2 k f) := by
  have h := (places t).2.1
  show V c (Pipeline.arrRef spec0 1) (((cfg0.win 1).blk t).view.emb (ix2 k f)) = _
  refine congrArg (V c (Pipeline.arrRef spec0 1)) ?_
  blk_ext [h.1, h.2]

theorem bias_block (c : Dev nD) (t : Fin cfg0.N) (f : Fin 128) :
    (show Vec Ideal S1x128 .f32 from iblk0 V c 2 t) (ix2 (0 : Fin 1) f) = bias V c (ix2 (0 : Fin 1) f) := by
  have h := (places t).2.2.1
  show V c (Pipeline.arrRef spec0 2) (((cfg0.win 2).blk t).view.emb (ix2 (0 : Fin 1) f)) = _
  refine congrArg (V c (Pipeline.arrRef spec0 2)) ?_
  blk_ext [h.1, h.2]

theorem norms_block (c : Dev nD) (t : Fin cfg0.N) (r : Fin 512) :
    (show Vec Ideal S512x1 .f32 from iblk0 V c 3 t) (ix2 r (0 : Fin 1)) = norms V c (ix2 ⟨t.val * 512 + r.val, by have := points t; omega⟩ (0 : Fin 1)) := by
  have h := (places t).2.2.2.1
  show V c (Pipeline.arrRef spec0 3) (((cfg0.win 3).blk t).view.emb (ix2 r (0 : Fin 1))) = _
  refine congrArg (V c (Pipeline.arrRef spec0 3)) ?_
  blk_ext [h.1, h.2]

theorem loops_block (c : Dev nD) (t : Fin cfg0.N) (r : Fin 512) :
    (show Vec Ideal S512x1 .f32 from iblk0 V c 4 t) (ix2 r (0 : Fin 1)) = loops V c (ix2 ⟨t.val * 512 + r.val, by have := points t; omega⟩ (0 : Fin 1)) := by
  have h := (places t).2.2.2.2.1
  show V c (Pipeline.arrRef spec0 4) (((cfg0.win 4).blk t).view.emb (ix2 r (0 : Fin 1))) = _
  refine congrArg (V c (Pipeline.arrRef spec0 4)) ?_
  blk_ext [h.1, h.2]

/-! ## What it leaves in the arrays it writes -/

/-- The first result: the features times the weights, each row scaled. -/
def scaled (c : Dev nD) : FVec Ideal S10240x128 .f32 := fun i =>
  norms V c (ix2 (i 0) (0 : Fin 1)) * ∑ k : Fin 128, feats V c (ix2 (i 0) k) * weights V c (ix2 k (i 1))

/-- The second: the node's own term. -/
def own (c : Dev nD) : FVec Ideal S10240x128 .f32 := fun i =>
  loops V c (ix2 (i 0) (0 : Fin 1)) * norms V c (ix2 (i 0) (0 : Fin 1)) * scaled V c i + bias V c (ix2 (0 : Fin 1) (i 1))

theorem scaled_at (c : Dev nD) (t : Fin cfg0.N) (y : S512x128.Idx) :
    k0_pay2 (F := Ideal) (iblk0 V c 0 t) (iblk0 V c 1 t) (iblk0 V c 3 t) y
      = scaled V c (ix2 ⟨t.val * 512 + (y 0).val, by have := points t; have : (y 0).val < 512 := (y 0).isLt; omega⟩ (y 1)) := by
  refine (scaled_block _ _ _ y).trans (congrArg₂ (· * ·) (norms_block V c t (y 0)) (Finset.sum_congr rfl fun k _ => ?_))
  exact congrArg₂ (· * ·) (feats_block V c t (y 0) k) (weights_block V c t k (y 1))

theorem own_at (c : Dev nD) (t : Fin cfg0.N) (y : S512x128.Idx) :
    k0_pay3 (F := Ideal) (iblk0 V c 0 t) (iblk0 V c 1 t) (iblk0 V c 3 t) (iblk0 V c 4 t) (iblk0 V c 2 t) y
      = own V c (ix2 ⟨t.val * 512 + (y 0).val, by have := points t; have : (y 0).val < 512 := (y 0).isLt; omega⟩ (y 1)) := by
  refine (own_block _ _ _ _ _ y).trans (congrArg₂ (· + ·) (congrArg₂ (· * ·) (congrArg₂ (· * ·) ?_ ?_) (scaled_at V c t y)) (bias_block V c t (y 1)))
  · exact loops_block V c t (y 0)
  · exact norms_block V c t (y 0)

/-- The block of rows a node's row is in. -/
abbrev blockOf (r : ℕ) (h : r < 10240) : Fin cfg0.N := ⟨r / 512, lt_of_lt_of_eq (by omega) N_0.symm⟩

theorem covered5 (i : S10240x128.Idx) : i ∈ ((cfg0.win 5).blk (blockOf (i 0).val (i 0).isLt)).view.set := by
  have h := (places (blockOf (i 0).val (i 0).isLt)).2.2.2.2.2.1
  show i ∈ ((View.whole main_v39_0).slice (win0_5.rect (blockOf (i 0).val (i 0).isLt))).set
  rw [View.set_slice_whole, Rect.mem_set_unit]
  exact Last.inside i _ h.1 h.2

theorem covered6 (i : S10240x128.Idx) : i ∈ ((cfg0.win 6).blk (blockOf (i 0).val (i 0).isLt)).view.set := by
  have h := (places (blockOf (i 0).val (i 0).isLt)).2.2.2.2.2.2
  show i ∈ ((View.whole main_v39_1).slice (win0_6.rect (blockOf (i 0).val (i 0).isLt))).set
  rw [View.set_slice_whole, Rect.mem_set_unit]
  exact Last.inside i _ h.1 h.2

/-- The first array after the call. -/
theorem scaled_is (c : Dev nD) : (dat0 V c).arrAt 5 cfg0.N = scaled V c := by
  refine (dat0 V c).arrAt_eq_of_cover 5 (scaled V c) (fun t _ => ?_) fun i => ⟨_, flush0_5 _, covered5 i⟩
  show (cfg0.win 5).cut (grid0.coords t) ((dat0 V c).after 5 t) = _
  rw [after0_5]
  funext y
  have h := (places t).2.2.2.2.2.1
  refine Eq.trans ?_ ((scaled_at V c t y).trans (congrArg (scaled V c) ?_))
  · show out0_5 _ _ _ _ _ y = _
    frame_out
  · show _ = ((cfg0.win 5).blk t).view.emb y
    blk_ext [h.1, h.2]

/-- The second. -/
theorem own_is (c : Dev nD) : (dat0 V c).arrAt 6 cfg0.N = own V c := by
  refine (dat0 V c).arrAt_eq_of_cover 6 (own V c) (fun t _ => ?_) fun i => ⟨_, flush0_6 _, covered6 i⟩
  show (cfg0.win 6).cut (grid0.coords t) ((dat0 V c).after 6 t) = _
  rw [after0_6]
  funext y
  have h := (places t).2.2.2.2.2.2
  refine Eq.trans ?_ ((own_at V c t y).trans (congrArg (own V c) ?_))
  · show out0_6 _ _ _ _ _ y = _
    frame_out
  · show _ = ((cfg0.win 6).blk t).view.emb y
    blk_ext [h.1, h.2]

end Cert.Kernel3Ideal.First

end
-- ==== Proof.Prefix3.lean ====
/- What the two convolutions' calls read and what is done with what they write, as functions of the arguments. -/
module

public import proofs.«01_k».proof.Proof.Region3First
public import Idealize.ShloMosaic.Lib.StableHlo.ReadAt

@[expose] public section

set_option maxRecDepth 16384

noncomputable section

namespace Cert.Kernel3Ideal.Prefix

open Cert.Kernel3Ideal Cert.Kernel3Ideal.Gen
open Idealize.ShloMosaic Idealize.ShloMosaic.TcCoe Idealize.SL.Sem

/-- The node at one end of each edge (row `r` of the edge list). -/
def endsRow (r : Fin 2) (e : IVec S2x160000 32) : IVec S160000 32 := fun i => e (ix2 r (i 0))

/-- The nodes at one end of the edges as a column of indices, counted from the end where negative. -/
def edgeColumn (w : IVec S160000 32) : IVec S160000x1 32 :=
  broadcastInDim S160000x1 ![0] bcast_S160000_S160000x1_0
    (select (cmpi .slt w (broadcastInDim S160000 ![] bcast_S_S160000 (constantI S_ 32 0#32)))
      (addi w (broadcastInDim S160000 ![] bcast_S_S160000 (constantI S_ 32 10240#32))) w)

/-- The selection as a column of indices, the same way. -/
def placeColumn (w : IVec S5120 32) : IVec S5120x1 32 :=
  broadcastInDim S5120x1 ![0] bcast_S5120_S5120x1_0
    (select (cmpi .slt w (broadcastInDim S5120 ![] bcast_S_S5120 (constantI S_ 32 0#32)))
      (addi w (broadcastInDim S5120 ![] bcast_S_S5120 (constantI S_ 32 10240#32))) w)

/-- One number for every node. -/
def forNodes (b : BitVec 32) : FVec Ideal S10240 .f32 := broadcastInDim S10240 ![] bcast_S_S10240 (constant S_ .f32 b)

/-- One number for every edge. -/
def forEdges (b : BitVec 32) : FVec Ideal S160000 .f32 := broadcastInDim S160000 ![] bcast_S_S160000 (constant S_ .f32 b)

/-- Zero for every node and feature. -/
def blank : FVec Ideal S10240x128 .f32 := broadcastInDim S10240x128 ![] bcast_S_S10240x128 (constant S_ .f32 0x00000000#32)

/-- What the edges into each node add up to. -/
def gathered (v : IVec S160000 32) (x : FVec Ideal S160000 .f32) : FVec Ideal S10240 .f32 :=
  Host.scatterAdd scatter_S10240_S160000x1_S160000_n_0_0_1 (forNodes 0x00000000#32) (edgeColumn v) x

/-- The number of edges from each node to itself. -/
def selfs (u v : IVec S160000 32) : FVec Ideal S10240 .f32 :=
  gathered v (select (cmpi .eq u v) (forEdges 0x3F800000#32) (forEdges 0x00000000#32))

/-- The weights of the loops the nodes are given. -/
def loops (u v : IVec S160000 32) : FVec Ideal S10240 .f32 :=
  select (cmpf .ogt (selfs u v) (forNodes 0x00000000#32)) (forNodes 0x00000000#32) (forNodes 0x40000000#32)

/-- The reciprocal roots of the degrees. -/
def norms (u v : IVec S160000 32) : FVec Ideal S10240 .f32 :=
  Host.rsqrt (addf (gathered v (forEdges 0x3F800000#32)) (loops u v))

/-- The rows of the level below, put back at their nodes. -/
def raised (p : IVec S5120 32) (x : FVec Ideal S5120x128 .f32) : FVec Ideal S10240x128 .f32 :=
  Host.scatter scatter_S10240x128_S5120x1_S5120x128_1_0_0_1 (fun _ b => b) blank (placeColumn p) x

/-- What the edges bring to each node from an array over the nodes. -/
def brought (u v : IVec S160000 32) (z : FVec Ideal S10240x128 .f32) : FVec Ideal S10240x128 .f32 :=
  Host.scatterAdd scatter_S10240x128_S160000x1_S160000x128_1_0_0_1 blank (edgeColumn v)
    (Host.gather gather_S10240x128_S160000x1_S160000x128_1_0_n_n_0_1_1128 z (edgeColumn u))

/-- The input over the call's rows: its own rows first, zeros after them. -/
def padded (x : FVec Ideal S10000x128 .f32) : FVec Ideal S10240x128 .f32 :=
  Host.scatter scatter_S10240x128_S1_S10000x128_01_n_0_0 (fun _ b => b) blank (broadcastInDim S1 ![] bcast_S_S1 (constantI S_ 32 0#32)) x

variable (m : (ℓ : Loc nD τ sig) → Buf (Elt Ideal) ℓ) (ρ : Dev nD → PrngReg)

abbrev input (c : Dev nD) : FVec Ideal S10000x128 .f32 := m ((c : Thread nD τ).loc main_arg0)
abbrev below (c : Dev nD) : FVec Ideal S5120x128 .f32 := m ((c : Thread nD τ).loc main_arg1)
abbrev picks (c : Dev nD) : IVec S5120 32 := m ((c : Thread nD τ).loc main_arg2)
abbrev edges (c : Dev nD) : IVec S2x160000 32 := m ((c : Thread nD τ).loc main_arg3)
abbrev weight0 (c : Dev nD) : FVec Ideal S128x128 .f32 := m ((c : Thread nD τ).loc main_arg4)
abbrev shift0 (c : Dev nD) : FVec Ideal S128 .f32 := m ((c : Thread nD τ).loc main_arg5)
abbrev weight1 (c : Dev nD) : FVec Ideal S256x128 .f32 := m ((c : Thread nD τ).loc main_arg6)
abbrev shift1 (c : Dev nD) : FVec Ideal S128 .f32 := m ((c : Thread nD τ).loc main_arg7)

/-! ## Before the first call -/

theorem sources_is (c : Dev nD) : W7 m ρ c (Proc.devRef .tc main_v1) = endsRow 0 (edges m c) := by
  show (show IVec S160000 32 from W7 m ρ c (Proc.devRef .tc main_v1)) = _
  funext i
  unfold W7 W6 W5 W4 W3 W2 W1
  after_reads_at
  rfl

theorem targets_is (c : Dev nD) : W7 m ρ c (Proc.devRef .tc main_v3) = endsRow 1 (edges m c) := by
  show (show IVec S160000 32 from W7 m ρ c (Proc.devRef .tc main_v3)) = _
  funext i
  unfold W7 W6 W5 W4 W3 W2 W1
  after_reads_at
  rfl

theorem input_is (c : Dev nD) (r : Fin 10240) (k : Fin 128) : First.feats (V7 m ρ) c (ix2 r k) = padded (input m c) (ix2 r k) := by
  show (show FVec Ideal S10240x128 .f32 from W7 m ρ c (Proc.devRef .tc main_v6)) (ix2 r k) = _
  unfold W7 W6 W5 W4 W3 W2 W1
  after_reads_at
  rfl

theorem loops_at (u v : IVec S160000 32) (r : Fin 10240) :
    loops u v (ix1 r) = if 0 < selfs u v (ix1 r) then 0 else Ideal.ofBits .f32 0x40000000#32 := by
  unfold loops forNodes
  pointwise

/-- The root of a sum, at a node. -/
theorem root_at (a b : FVec Ideal S10240 .f32) (i : S10240.Idx) : Host.rsqrt (addf a b) i = Ideal.rsqrt (a i + b i) := rfl

theorem norms_at (u v : IVec S160000 32) (i : S10240.Idx) :
    norms u v i = Ideal.rsqrt (gathered v (forEdges 0x3F800000#32) i + loops u v i) := by
  unfold norms
  exact root_at _ _ i

/-- Edges' sums from the same words and numbers are the same. -/
theorem gathered_of {x x' : IVec S160000x1 32} {y y' : FVec Ideal S160000 .f32} (hx : x = x') (hy : y = y') :
    Host.scatterAdd scatter_S10240_S160000x1_S160000_n_0_0_1 (forNodes 0x00000000#32) x y
      = Host.scatterAdd scatter_S10240_S160000x1_S160000_n_0_0_1 (forNodes 0x00000000#32) x' y' := by
  rw [hx, hy]

/-- So are the loops' weights from the same counts. -/
theorem loops_of {x x' : FVec Ideal S10240 .f32} (h : x = x') :
    (select (cmpf .ogt x (forNodes 0x00000000#32)) (forNodes 0x00000000#32) (forNodes 0x40000000#32) : FVec Ideal S10240 .f32)
      = select (cmpf .ogt x' (forNodes 0x00000000#32)) (forNodes 0x00000000#32) (forNodes 0x40000000#32) := by
  rw [h]

/-- Roots of the same sums are the same. -/
theorem root_of {a a' b b' : FVec Ideal S10240 .f32} (i : S10240.Idx) (ha : a = a') (hb : b = b') :
    Ideal.rsqrt ((a i : EReal) + b i) = Ideal.rsqrt ((a' i : EReal) + b' i) := by
  rw [ha, hb]

/-- The edges that are loops. -/
abbrev looping (u v : IVec S160000 32) : FVec Ideal S160000 .f32 := select (cmpi .eq u v) (forEdges 0x3F800000#32) (forEdges 0x00000000#32)

set_option maxRecDepth 100000 in
theorem loops_is (c : Dev nD) (r : Fin 10240) :
    (show FVec Ideal S10240 .f32 from W7 m ρ c (Proc.devRef .tc main_v35)) (ix1 r) = loops (endsRow 0 (edges m c)) (endsRow 1 (edges m c)) (ix1 r) := by
  rw [loops_at]
  unfold W7 W6 W5 W4 W3 W2 W1
  after_reads_at
  refine if_congr (Iff.of_eq (congrArg (fun x : EReal => 0 < x) ?_)) rfl rfl
  exact congrFun (gathered_of (congrArg edgeColumn rfl) (congrArg₂ looping rfl rfl)) (ix1 r)

set_option maxRecDepth 100000 in
theorem norms_is (c : Dev nD) (r : Fin 10240) :
    (show FVec Ideal S10240 .f32 from W7 m ρ c (Proc.devRef .tc main_v32)) (ix1 r) = norms (endsRow 0 (edges m c)) (endsRow 1 (edges m c)) (ix1 r) := by
  rw [norms_at]
  unfold W7 W6 W5 W4 W3 W2 W1
  after_reads_at
  simp only [id_eq]
  exact root_of (ix1 r) (gathered_of (congrArg edgeColumn rfl) rfl) (loops_of (gathered_of (congrArg edgeColumn rfl) (congrArg₂ looping rfl rfl)))

/-! ## The lines next to a call, from any contents -/

variable (W : Valuation τ sig (Elt Ideal))

theorem norms_column0 (r : Fin 10240) :
    (show FVec Ideal S10240x1 .f32 from StableHlo.after hostOps0_6 W (Proc.devRef .tc main_v37)) (ix2 r (0 : Fin 1))
      = (show FVec Ideal S10240 .f32 from W (Proc.devRef .tc main_v32)) (ix1 r) := by
  after_reads_at

theorem loops_column0 (r : Fin 10240) :
    (show FVec Ideal S10240x1 .f32 from StableHlo.after hostOps0_6 W (Proc.devRef .tc main_v38)) (ix2 r (0 : Fin 1))
      = (show FVec Ideal S10240 .f32 from W (Proc.devRef .tc main_v35)) (ix1 r) := by
  after_reads_at

theorem shift_row0 (f : Fin 128) :
    (show FVec Ideal S1x128 .f32 from StableHlo.after hostOps0_6 W (Proc.devRef .tc main_v36)) (ix2 (0 : Fin 1) f)
      = (show FVec Ideal S128 .f32 from W (Proc.devRef .tc main_arg5)) (ix1 f) := by
  after_reads_at

theorem norms_column1 (r : Fin 10240) :
    (show FVec Ideal S10240x1 .f32 from StableHlo.after hostOps1_2 W (Proc.devRef .tc main_v70)) (ix2 r (0 : Fin 1))
      = (show FVec Ideal S10240 .f32 from W (Proc.devRef .tc main_v32)) (ix1 r) := by
  after_reads_at

theorem loops_column1 (r : Fin 10240) :
    (show FVec Ideal S10240x1 .f32 from StableHlo.after hostOps1_2 W (Proc.devRef .tc main_v71)) (ix2 r (0 : Fin 1))
      = (show FVec Ideal S10240 .f32 from W (Proc.devRef .tc main_v35)) (ix1 r) := by
  after_reads_at

theorem shift_row1 (f : Fin 128) :
    (show FVec Ideal S1x128 .f32 from StableHlo.after hostOps1_2 W (Proc.devRef .tc main_v69)) (ix2 (0 : Fin 1) f)
      = (show FVec Ideal S128 .f32 from W (Proc.devRef .tc main_arg7)) (ix1 f) := by
  after_reads_at

/-- The features of the last call: the first layer's beside the level below's, put back. -/
theorem feats_is (r : Fin 10240) (k : Fin 256) :
    (show FVec Ideal S10240x256 .f32 from StableHlo.after hostOps1_2 W (Proc.devRef .tc main_v68)) (ix2 r k)
      = if h : k.val < 128 then (show FVec Ideal S10240x128 .f32 from W (Proc.devRef .tc main_v59)) (ix2 r ⟨k.val, h⟩)
        else raised (W (Proc.devRef .tc main_arg2)) (W (Proc.devRef .tc main_arg1)) (ix2 r ⟨k.val - 128, by omega⟩) := by
  after_reads_at
  rfl

/-- The lines after the first call. -/
theorem hidden_is (r : Fin 10240) (f : Fin 128) :
    (show FVec Ideal S10240x128 .f32 from StableHlo.after hostOps1_1 (StableHlo.after hostOps1 W) (Proc.devRef .tc main_v59)) (ix2 r f)
      = max ((show FVec Ideal S10240 .f32 from W (Proc.devRef .tc main_v32)) (ix1 r)
          * brought (W (Proc.devRef .tc main_v1)) (W (Proc.devRef .tc main_v3)) (W (Proc.devRef .tc main_v39_0)) (ix2 r f)
        + (show FVec Ideal S10240x128 .f32 from W (Proc.devRef .tc main_v39_1)) (ix2 r f)) 0 := by
  after_reads_at
  unfold brought blank edgeColumn
  rfl

/-- The lines after the last call. -/
theorem closing_is (d : Fin 10000) (f : Fin 128) :
    (show FVec Ideal S10000x128 .f32 from StableHlo.after hostOps2 W (Proc.devRef .tc main_v92)) (ix2 d f)
      = (show FVec Ideal S10240 .f32 from W (Proc.devRef .tc main_v32)) (ix1 ⟨d.val, by omega⟩)
          * brought (W (Proc.devRef .tc main_v1)) (W (Proc.devRef .tc main_v3)) (W (Proc.devRef .tc main_v72_0)) (ix2 ⟨d.val, by omega⟩ f)
        + (show FVec Ideal S10240x128 .f32 from W (Proc.devRef .tc main_v72_1)) (ix2 ⟨d.val, by omega⟩ f) := by
  after_reads_at
  unfold brought blank edgeColumn
  rfl

end Cert.Kernel3Ideal.Prefix

end
-- ==== Proof.Conv.lean ====
/- The mathematics of a graph convolution on the extended reals: a sum over the edges into a node, beside the node's own
   term, against a product with the normalised adjacency matrix. -/
module

public import Idealize.ShloMosaic.Lib.Pipeline.ValueKit

@[expose] public section

noncomputable section

namespace Cert.Conv

open Idealize.ShloMosaic

variable {E N : Type} [Fintype E] [Fintype N] [DecidableEq N] (u v : E → N)

/-- The number of edges from `s` to `d`. -/
def count (s d : N) : EReal := ∑ e, if u e = s ∧ v e = d then (1 : EReal) else 0

/-- The number of edges into `d`. -/
def into (d : N) : EReal := ∑ e, if v e = d then (1 : EReal) else 0

/-- The weight of the loop a node is given: `two` where it has none of its own. -/
def loop (two : EReal) (d : N) : EReal := if 0 < count u v d d then 0 else two

theorem one_or_zero (p : Prop) [Decidable p] : (0 : EReal) ≤ if p then 1 else 0 := by
  by_cases h : p
  · rw [if_pos h]; exact zero_le_one
  · rw [if_neg h]

theorem count_nonneg (s d : N) : 0 ≤ count u v s d := Finset.sum_nonneg fun _ _ => one_or_zero _

theorem into_nonneg (d : N) : 0 ≤ into v d := Finset.sum_nonneg fun _ _ => one_or_zero _

/-- The edges from any node to `d` are the edges into `d`. -/
theorem from_anywhere (d : N) : ∑ s, count u v s d = into v d := by
  unfold count into
  rw [Finset.sum_comm]
  refine Finset.sum_congr rfl fun e _ => ?_
  by_cases h : v e = d
  · simp [h]
  · simp [h]

/-- Multiplication distributes over a sum of terms that are not negative. -/
theorem sum_times {ι : Type} (t : Finset ι) (a : ι → EReal) (h : ∀ i, 0 ≤ a i) (x : EReal) : (∑ i ∈ t, a i) * x = ∑ i ∈ t, a i * x := by
  classical
  induction t using Finset.induction_on with
  | empty => simp
  | insert i t hi ih =>
    rw [Finset.sum_insert hi, Finset.sum_insert hi, EReal.right_distrib_of_nonneg (h i) (Finset.sum_nonneg fun j _ => h j), ih]

/-- So does multiplication by a number that is not negative and not infinite. -/
theorem times_sum {ι : Type} (t : Finset ι) (a : ι → EReal) {x : EReal} (h : 0 ≤ x) (h' : x ≠ ⊤) : x * ∑ i ∈ t, a i = ∑ i ∈ t, x * a i := by
  classical
  induction t using Finset.induction_on with
  | empty => simp
  | insert i t hi ih => rw [Finset.sum_insert hi, Finset.sum_insert hi, EReal.left_distrib_of_nonneg_of_ne_top h h', ih]

/-- What the edges into `d` bring is the product with the column of counts. -/
theorem brought (g : N → EReal) (d : N) : (∑ e, if v e = d then g (u e) else 0) = ∑ s, count u v s d * g s := by
  have step : ∀ s, count u v s d * g s = ∑ e, if u e = s ∧ v e = d then g s else 0 := fun s => by
    unfold count
    rw [sum_times _ _ (fun e => one_or_zero _)]
    refine Finset.sum_congr rfl fun e _ => ?_
    by_cases h : u e = s ∧ v e = d
    · rw [if_pos h, if_pos h, one_mul]
    · rw [if_neg h, if_neg h, zero_mul]
  rw [Finset.sum_congr rfl fun s _ => step s, Finset.sum_comm]
  refine Finset.sum_congr rfl fun e _ => ?_
  by_cases h : v e = d
  · simp [h]
  · simp [h]

/-- The total weight into `d`, the loop's included, is positive. -/
theorem degree_pos {two : EReal} (h2 : 0 < two) (d : N) : 0 < into v d + loop u v two d := by
  unfold loop
  by_cases h : 0 < count u v d d
  · rw [if_pos h, add_zero, ← from_anywhere u v d]
    exact lt_of_lt_of_le h (Finset.single_le_sum (f := fun s => count u v s d) (fun s _ => count_nonneg u v s d) (Finset.mem_univ d))
  · rw [if_neg h]
    exact lt_of_lt_of_le h2 (le_add_of_nonneg_left (into_nonneg v d))

theorem loop_nonneg {two : EReal} (h2 : 0 < two) (d : N) : 0 ≤ loop u v two d := by
  unfold loop
  by_cases h : 0 < count u v d d
  · rw [if_pos h]
  · rw [if_neg h]; exact h2.le

/-- The reciprocal of the root of a positive number, and that it is neither negative nor infinite. -/
theorem root_pos {x : EReal} (h : 0 < x) : Ideal.div 1 (Ideal.sqrt x) = Ideal.rsqrt x ∧ 0 ≤ Ideal.rsqrt x ∧ Ideal.rsqrt x ≠ ⊤ := by
  induction x with
  | bot => exact absurd h (by simp)
  | top =>
    refine ⟨?_, le_of_eq rfl, ?_⟩
    · unfold Ideal.div
      rw [Ideal.sqrt_top, Ideal.rsqrt_top, if_neg (by simp)]
      simp
    · rw [Ideal.rsqrt_top]; simp
  | coe r =>
    have hr : 0 < r := EReal.coe_pos.mp h
    have hs : Real.sqrt r ≠ 0 := (Real.sqrt_pos.mpr hr).ne'
    have e : Ideal.rsqrt (r : EReal) = (((Real.sqrt r)⁻¹ : ℝ) : EReal) := by
      rw [Ideal.rsqrt_coe, if_neg (not_lt.mpr hr.le), if_neg hr.ne']
    refine ⟨?_, ?_, ?_⟩
    · unfold Ideal.div
      rw [e, Ideal.sqrt_coe, if_neg (not_lt.mpr hr.le), if_neg (by simpa using hs), one_mul, EReal.coe_inv]
    · rw [e]; exact EReal.coe_nonneg.mpr (inv_nonneg.mpr (Real.sqrt_nonneg r))
    · rw [e]; exact EReal.coe_ne_top _

/-- THE CONVOLUTION at node `d`: the edges' sum scaled by `n d`, with the loop's term beside it, is the product with the
    adjacency matrix, loops added, normalised on both sides. -/
theorem convolved (n z w : N → EReal) (b : EReal) (hn : ∀ s, 0 ≤ n s) (hw : ∀ s, 0 ≤ w s) (d : N) (hd : n d ≠ ⊤) :
    n d * (∑ e, if v e = d then n (u e) * z (u e) else 0) + (w d * n d * (n d * z d) + b)
      = (∑ s, n s * (count u v s d + if s = d then w s else 0) * n d * z s) + b := by
  have hl : ∀ s, 0 ≤ (if s = d then w s else 0) := fun s => by
    by_cases h : s = d
    · rw [if_pos h]; exact hw s
    · rw [if_neg h]
  have hc := fun s => count_nonneg u v s d
  have split : ∀ s, n s * (count u v s d + if s = d then w s else 0) * n d * z s
      = n d * (count u v s d * (n s * z s)) + if s = d then w d * n d * (n d * z d) else 0 := fun s => by
    rw [EReal.left_distrib_of_nonneg (hc s) (hl s), EReal.right_distrib_of_nonneg (mul_nonneg (hn s) (hc s)) (mul_nonneg (hn s) (hl s)),
      EReal.right_distrib_of_nonneg (mul_nonneg (mul_nonneg (hn s) (hc s)) (hn d)) (mul_nonneg (mul_nonneg (hn s) (hl s)) (hn d))]
    congr 1
    · ac_rfl
    · by_cases h : s = d
      · rw [if_pos h, if_pos h, h]; ac_rfl
      · rw [if_neg h, if_neg h, mul_zero, zero_mul, zero_mul]
  rw [brought u v (fun s => n s * z s) d, times_sum _ _ (hn d) hd, Finset.sum_congr rfl fun s _ => split s, Finset.sum_add_distrib,
    Finset.sum_ite_eq' Finset.univ d, if_pos (Finset.mem_univ d), add_assoc]

/-- The reciprocal root of a node's degree. -/
def norm (two : EReal) (d : N) : EReal := Ideal.rsqrt (into v d + loop u v two d)

/-- A node's row of the product with the normalised adjacency matrix, shifted. -/
def conv (two : EReal) (z : N → EReal) (b : EReal) (d : N) : EReal :=
  (∑ s, norm u v two s * (count u v s d + if s = d then loop u v two s else 0) * norm u v two d * z s) + b

/-- The convolution again, with the degrees' own roots. -/
theorem layer {two : EReal} (h2 : 0 < two) (z : N → EReal) (b : EReal) (d : N) :
    norm u v two d * (∑ e, if v e = d then norm u v two (u e) * z (u e) else 0) + (loop u v two d * norm u v two d * (norm u v two d * z d) + b)
      = conv u v two z b d :=
  convolved u v (norm u v two) z (loop u v two) b (fun s => (root_pos (degree_pos u v h2 s)).2.1) (fun s => loop_nonneg u v h2 s) d
    (root_pos (degree_pos u v h2 d)).2.2

end Cert.Conv

end
-- ==== Proof.Rows.lean ====
/- Scatters of single numbers that add up in a vector, and scatters of whole rows into a matrix, at any extents. -/
module

public import Idealize.ShloMosaic.Lib.Routing.OpsOrder
public import proofs.«01_k».proof.Proof.Place

@[expose] public section

noncomputable section

namespace Cert.Place

open Idealize.ShloMosaic Idealize.ShloMosaic.Routing

/-- A scatter of `E` rows into a matrix, one index word each. -/
abbrev rows (R B E : ℕ) (wf : ScatterDims.WF (shape2 R B) (shape2 E 1) (shape2 E B) [1] [0] [0] 1) :
    ScatterDims (shape2 R B) (shape2 E 1) (shape2 E B) := ⟨[1], [0], [0], 1, wf⟩

/-- Element `q` of row update `e` lands at row `r`, column `f` exactly when the update's word is `r` and `q` is `f`. -/
theorem lands_row {R B E : ℕ} (wf) (idx : IVec (shape2 E 1) 32) (e : Fin E) (q : Fin B) (r : Fin R) (f : Fin B) :
    (rows R B E wf).resultIdx? (ix2 e q) idx = some (ix2 r f) ↔ (idx (ix2 e (0 : Fin 1))).toInt = r.val ∧ q = f := by
  have start0 : (rows R B E wf).start (ix2 e q) idx 0 = (idx (ix2 e (0 : Fin 1))).toInt := by
    refine congrArg (fun i => (idx i).toInt) (funext fun a => ?_)
    fin_cases a <;> rfl
  have start1 : (rows R B E wf).start (ix2 e q) idx 1 = 0 := rfl
  have window0 : (rows R B E wf).window (ix2 e q) 0 = 0 := rfl
  have window1 : (rows R B E wf).window (ix2 e q) 1 = q.val := rfl
  refine (resultIdx?_ix2 _ _ idx r f).trans ?_
  rw [start0, start1, window0, window1, Fin.ext_iff]
  constructor
  · rintro ⟨h, h'⟩
    exact ⟨by simpa using h, by omega⟩
  · rintro ⟨h, h'⟩
    exact ⟨by simpa using h, by omega⟩

/-- An accumulating scatter of rows, at row `r`, column `f`. -/
theorem row_added_at {R B E : ℕ} (wf) (x : (shape2 R B).Idx → EReal) (idx : IVec (shape2 E 1) 32) (u : (shape2 E B).Idx → EReal)
    (r : Fin R) (f : Fin B) :
    Ideal.hostScatterAdd (rows R B E wf) x idx u (ix2 r f)
      = x (ix2 r f) + ∑ e : Fin E, if (idx (ix2 e (0 : Fin 1))).toInt = r.val then u (ix2 e f) else 0 := by
  unfold Ideal.hostScatterAdd
  congr 1
  rw [Finset.sum_filter, sum_idx2]
  refine Finset.sum_congr rfl fun e _ => ?_
  simp only [lands_row]
  by_cases h : (idx (ix2 e (0 : Fin 1))).toInt = r.val
  · simp [h]
  · simp [h]

/-- An accumulating scatter of scalars into a vector, at entry `y`. -/
theorem single_added_at {N E : ℕ} (wf) (x : (shape1 N).Idx → EReal) (idx : IVec (shape2 E 1) 32) (u : (shape1 E).Idx → EReal) (y : Fin N) :
    Ideal.hostScatterAdd (singles N E wf) x idx u (ix1 y)
      = x (ix1 y) + ∑ e : Fin E, if (idx (ix2 e (0 : Fin 1))).toInt = y.val then u (ix1 e) else 0 := by
  unfold Ideal.hostScatterAdd
  congr 1
  rw [Finset.sum_filter, sum_idx1]
  refine Finset.sum_congr rfl fun e _ => ?_
  simp only [lands_single]

/-- Of the writes in a list, the last one stays. -/
theorem last_kept {α β : Type} (P : β → Prop) [DecidablePred P] (g : β → α) (x : α) (A B : List β) (n : β) (hn : P n) (hB : ∀ k ∈ B, ¬ P k) :
    (A ++ n :: B).foldl (fun a k => if P k then g k else a) x = g n := by
  have rest : ∀ (B : List β) (a : α), (∀ k ∈ B, ¬ P k) → B.foldl (fun a k => if P k then g k else a) a = a := by
    intro B
    induction B with
    | nil => exact fun _ _ => rfl
    | cons k B ih =>
      intro a h
      rw [List.foldl_cons, if_neg (h k (List.mem_cons_self ..)), ih a fun q hq => h q (List.mem_cons_of_mem _ hq)]
  rw [List.foldl_append, List.foldl_cons, if_pos hn, rest B _ hB]

/-- A scatter that sets rows, at a row that update `e` is the last to name. -/
theorem row_set_at {α : Type} {R B E : ℕ} (wf) (x : (shape2 R B).Idx → α) (idx : IVec (shape2 E 1) 32) (u : (shape2 E B).Idx → α)
    (r : Fin R) (f : Fin B) (e : Fin E) (he : (idx (ix2 e (0 : Fin 1))).toInt = r.val)
    (hu : ∀ e' : Fin E, e < e' → (idx (ix2 e' (0 : Fin 1))).toInt ≠ r.val) :
    Host.scatter (rows R B E wf) (fun _ b => b) x idx u (ix2 r f) = u (ix2 e f) := by
  obtain ⟨A, C, split⟩ := List.append_of_mem (List.mem_finRange ((shape2 E B).rowMajor (ix2 e f)))
  have after : ∀ k ∈ C, (shape2 E B).rowMajor (ix2 e f) < k := by
    have t := List.pairwise_lt_finRange (shape2 E B).numel
    rw [split, List.pairwise_append, List.pairwise_cons] at t
    exact t.2.1.1
  refine (scatterIn_at (List.finRange _) (rows R B E wf) (fun _ b => b) x idx u (ix2 r f)).trans ?_
  rw [split]
  refine (last_kept (fun k => (rows R B E wf).resultIdx? ((shape2 E B).rowMajor.symm k) idx = some (ix2 r f)) (fun k => u ((shape2 E B).rowMajor.symm k))
    (x (ix2 r f)) A C _ ?_ fun k hk hit => ?_).trans ?_
  · rw [Equiv.symm_apply_apply]
    exact (lands_row wf idx e f r f).2 ⟨he, rfl⟩
  · obtain ⟨i, rfl⟩ := (shape2 E B).rowMajor.surjective k
    obtain ⟨e', q, rfl⟩ : ∃ (e' : Fin E) (q : Fin B), i = ix2 e' q := ⟨i 0, i 1, eq_ix2 i⟩
    rw [Equiv.symm_apply_apply] at hit
    obtain ⟨h, rfl⟩ := (lands_row wf idx e' q r f).1 hit
    refine hu e' ?_ h
    have t := Fin.lt_def.1 (after _ hk)
    rw [Shape.rowMajor_val_two, Shape.rowMajor_val_two] at t
    exact Fin.lt_def.2 (Nat.lt_of_mul_lt_mul_right (a := B) (Nat.lt_of_add_lt_add_right t))
  · exact congrArg u (Equiv.symm_apply_apply _ _)

/-- … and at a row that no update names: the operand's. -/
theorem row_set_miss {α : Type} {R B E : ℕ} (wf) (x : (shape2 R B).Idx → α) (idx : IVec (shape2 E 1) 32) (u : (shape2 E B).Idx → α)
    (r : Fin R) (f : Fin B) (h : ∀ e' : Fin E, (idx (ix2 e' (0 : Fin 1))).toInt ≠ r.val) :
    Host.scatter (rows R B E wf) (fun _ b => b) x idx u (ix2 r f) = x (ix2 r f) := by
  refine scatter_set_miss _ x idx u _ fun k hk => ?_
  obtain ⟨e', q, rfl⟩ : ∃ (e' : Fin E) (q : Fin B), k = ix2 e' q := ⟨k 0, k 1, eq_ix2 k⟩
  exact h e' ((lands_row wf idx e' q r f).1 hk).1

/-- A scatter of one block of whole rows into a matrix, at the row its one index word names. -/
abbrev block (R B E : ℕ) (wf : ScatterDims.WF (shape2 R B) (shape1 1) (shape2 E B) [0, 1] [] [0] 0) :
    ScatterDims (shape2 R B) (shape1 1) (shape2 E B) := ⟨[0, 1], [], [0], 0, wf⟩

/-- Where the word is zero, the block's rows are the matrix's first. -/
theorem block_set_at {α : Type} {R B E : ℕ} (wf) (x : (shape2 R B).Idx → α) (idx : IVec (shape1 1) 32) (u : (shape2 E B).Idx → α)
    (h : (idx (ix1 (0 : Fin 1))).toInt = 0) (r : Fin R) (e : Fin E) (q : e.val = r.val) (f : Fin B) :
    Host.scatter (block R B E wf) (fun _ b => b) x idx u (ix2 r f) = u (ix2 e f) := by
  have lands : ∀ (e' : Fin E) (g : Fin B), (block R B E wf).resultIdx? (ix2 e' g) idx = some (ix2 r f) ↔ e'.val = r.val ∧ g = f := fun e' g => by
    have start0 : (block R B E wf).start (ix2 e' g) idx 0 = 0 := by
      refine Eq.trans ?_ h
      refine congrArg (fun i => (idx i).toInt) (funext fun a => ?_)
      fin_cases a
      rfl
    have start1 : (block R B E wf).start (ix2 e' g) idx 1 = 0 := rfl
    have window0 : (block R B E wf).window (ix2 e' g) 0 = e'.val := rfl
    have window1 : (block R B E wf).window (ix2 e' g) 1 = g.val := rfl
    refine (resultIdx?_ix2 _ _ idx r f).trans ?_
    rw [start0, start1, window0, window1, Fin.ext_iff]
    omega
  refine scatter_set_hit _ x idx u _ _ (fun k hk => ?_) (ix2 e f) ((lands e f).2 ⟨q, rfl⟩)
  obtain ⟨e', g, rfl⟩ : ∃ (e' : Fin E) (g : Fin B), k = ix2 e' g := ⟨k 0, k 1, eq_ix2 k⟩
  obtain ⟨h1, rfl⟩ := (lands e' g).1 hk
  rw [Fin.ext (h1.trans q.symm) (a := e') (b := e)]

/-- Where a word says `s`, there is a last such word. -/
theorem last_of {n : ℕ} (w : Fin n → ℤ) (s : ℤ) (h : ∃ i, w i = s) : ∃ i, w i = s ∧ ∀ j, i < j → w j ≠ s := by
  have ne : (Finset.univ.filter fun i => w i = s).Nonempty := h.imp fun i hi => Finset.mem_filter.2 ⟨Finset.mem_univ i, hi⟩
  refine ⟨(Finset.univ.filter fun i => w i = s).max' ne, (Finset.mem_filter.1 (Finset.max'_mem _ ne)).2, fun j hj q => ?_⟩
  exact absurd (Finset.le_max' _ j (Finset.mem_filter.2 ⟨Finset.mem_univ j, q⟩)) (not_le.2 hj)

open Classical in
/-- The number of the last word that says `s`, and zero where none does. -/
def placed {n : ℕ} (w : Fin n → ℤ) (x : Fin n → EReal) (s : ℤ) : EReal := if h : ∃ i, w i = s then x (last_of w s h).choose else 0

theorem placed_at {n : ℕ} {w : Fin n → ℤ} (x : Fin n → EReal) {s : ℤ} (i : Fin n) (hi : w i = s) (hl : ∀ j, i < j → w j ≠ s) : placed w x s = x i := by
  have e : ∃ j, w j = s := ⟨i, hi⟩
  unfold placed
  rw [dif_pos e]
  have t := (last_of w s e).choose_spec
  rcases lt_trichotomy (last_of w s e).choose i with q | q | q
  · exact absurd hi (t.2 i q)
  · rw [q]
  · exact absurd t.1 (hl _ q)

theorem placed_miss {n : ℕ} (w : Fin n → ℤ) {s : ℤ} (x : Fin n → EReal) (h : ¬ ∃ i, w i = s) : placed w x s = 0 := by
  unfold placed
  rw [dif_neg h]

/-- What is asked of a selection whose rows are put back: none of the first `K` words is negative, and the rest name none of the `N` nodes. -/
structure Keeps {P : ℕ} (p : IVec (shape1 P) 32) (K N : ℕ) : Prop where
  kept : ∀ j : Fin P, j.val < K → 0 ≤ (p (ix1 j)).toInt
  fill : ∀ j : Fin P, K ≤ j.val → (N : ℤ) ≤ (p (ix1 j)).toInt

/-- No word of such a selection is negative. -/
theorem Keeps.nat {P K N : ℕ} {p : IVec (shape1 P) 32} (h : Keeps p K N) (j : Fin P) : ∃ b : ℕ, (p (ix1 j)).toInt = b := by
  refine Int.eq_ofNat_of_zero_le ?_
  by_cases q : j.val < K
  · exact h.kept j q
  · exact (Int.natCast_nonneg N).trans (h.fill j (not_lt.1 q))

end Cert.Place

end
-- ==== Proof.Layers3.lean ====
/- The first and the last layer of the network, as numbers: what both the calls and the reference are shown to give. -/
module

public import proofs.«01_k».proof.Proof.Factor
public import proofs.«01_k».proof.Proof.Conv
public import proofs.«01_k».proof.Proof.Rows

@[expose] public section

noncomputable section

namespace Cert.Layers

open Idealize.ShloMosaic Idealize.ShloMosaic.Routing
open Cert.Place (placed)
open Cert.KernelIdeal.Prefix (slot)

/-- The weight of a given loop. -/
abbrev two : EReal := Ideal.ofBits .f32 0x40000000#32

theorem two_pos : 0 < two := by
  simp [two, Ideal.ofBits, Ideal.ieee, -EReal.coe_mul]

/-- The kept words, as numbers. -/
def keptAt (p : IVec (shape1 5120) 32) (i : Fin 5000) : ℤ := (p (ix1 (slot i))).toInt

variable (u v : Fin 160000 → Fin 10000) (x : FVec Ideal (shape2 10000 128) .f32) (y : FVec Ideal (shape2 5120 128) .f32) (p : IVec (shape1 5120) 32)
  (w0 : FVec Ideal (shape2 128 128) .f32) (b0 : FVec Ideal (shape1 128) .f32) (w1 : FVec Ideal (shape2 256 128) .f32) (b1 : FVec Ideal (shape1 128) .f32)

/-- A row of the input times the first weights. -/
def mixed0 (f : Fin 128) (s : Fin 10000) : EReal := ∑ k : Fin 128, x (ix2 s k) * w0 (ix2 k f)

/-- The first layer. -/
def hidden (s : Fin 10000) (f : Fin 128) : EReal := max (Conv.conv u v two (mixed0 x w0 f) (b0 (ix1 f)) s) 0

/-- A row of the last layer's features. -/
def feature (s : Fin 10000) (k : Fin 256) : EReal :=
  if q : k.val < 128 then hidden u v x w0 b0 s ⟨k.val, q⟩ else placed (keptAt p) (fun i => y (ix2 (slot i) ⟨k.val - 128, by omega⟩)) s.val

/-- That row times the last weights. -/
def mixed1 (f : Fin 128) (s : Fin 10000) : EReal := ∑ k : Fin 256, feature u v x y p w0 b0 s k * w1 (ix2 k f)

/-- The last layer. -/
def last (d : Fin 10000) (f : Fin 128) : EReal := Conv.conv u v two (mixed1 u v x y p w0 b0 w1 f) (b1 (ix1 f)) d

end Cert.Layers

end
-- ==== Proof.Degrees3.lean ====
/- What the two convolutions' calls read, at a node, where the ends of the edges are nodes and no word of the selection counts from the end. -/
module

public import proofs.«01_k».proof.Proof.Prefix3
public import proofs.«01_k».proof.Proof.Network
public import proofs.«01_k».proof.Proof.Factor
public import proofs.«01_k».proof.Proof.Layers3

@[expose] public section

set_option maxRecDepth 16384

noncomputable section

namespace Cert.Kernel3Ideal.Degrees

open Cert.Kernel3Ideal Cert.Kernel3Ideal.Gen Cert.Kernel3Ideal.Prefix Cert.Place
open Idealize.ShloMosaic Idealize.ShloMosaic.TcCoe Idealize.SL.Sem
open Cert.ReferenceIdeal.Network (Joins)
open Cert.KernelIdeal.Prefix (slot)
open Cert.Layers (two keptAt)

/-- A node's row. -/
abbrev row (d : Fin 10000) : Fin 10240 := ⟨d.val, by omega⟩

variable {e : IVec S2x160000 32} {u v : Fin 160000 → Fin 10000} {p : IVec S5120 32}

theorem edgeColumn_at (w : IVec S160000 32) (n : Fin 160000 → Fin 10000) (h : ∀ k, (w (ix1 k)).toInt = (n k).val) (k : Fin 160000) :
    (edgeColumn w (ix2 k (0 : Fin 1))).toInt = (n k).val := by
  have t : edgeColumn w (ix2 k (0 : Fin 1)) = Scalar.select (IntOp.cmpi .slt (w (ix1 k)) 0#32) (IntOp.addi (w (ix1 k)) 10240#32) (w (ix1 k)) := by
    pointwise [edgeColumn]
  rw [t, not_wrapped _ _ _ (h k), h k]

theorem gathered_at (h : Joins e u v) (x : FVec Ideal S160000 .f32) (d : Fin 10000) :
    gathered (endsRow 1 e) x (ix1 (row d)) = ∑ k : Fin 160000, if v k = d then x (ix1 k) else 0 := by
  have z : forNodes 0x00000000#32 (ix1 (row d)) = 0 := by
    pointwise [forNodes]
  unfold gathered
  refine (single_added_at _ _ _ _ (row d)).trans ((congrArg (· + _) z).trans ((zero_add _).trans (Finset.sum_congr rfl fun k _ => if_congr ?_ rfl rfl)))
  rw [edgeColumn_at _ v (fun k => h.to_ k) k, Fin.ext_iff]
  exact Nat.cast_inj

theorem selfs_at (h : Joins e u v) (d : Fin 10000) : selfs (endsRow 0 e) (endsRow 1 e) (ix1 (row d)) = Conv.count u v d d := by
  unfold selfs
  rw [gathered_at h]
  unfold Conv.count
  refine Finset.sum_congr rfl fun k _ => ?_
  have t : (select (cmpi .eq (endsRow 0 e) (endsRow 1 e)) (forEdges 0x3F800000#32) (forEdges 0x00000000#32) : FVec Ideal S160000 .f32) (ix1 k)
      = Scalar.select (IntOp.cmpi .eq (e (ix2 (0 : Fin 2) k)) (e (ix2 (1 : Fin 2) k))) (1 : EReal) 0 := by
    unfold forEdges endsRow
    pointwise
  have q : e (ix2 (0 : Fin 2) k) = e (ix2 (1 : Fin 2) k) ↔ u k = v k := by
    rw [← BitVec.toInt_inj, h.from_, h.to_, Fin.ext_iff]
    omega
  rw [t, WordCmp.cmpi_eq_eq, WordCmp.ofBool_decide_eq_ite]
  by_cases a : v k = d
  · by_cases b : u k = d
    · rw [if_pos a, if_pos (q.2 (b.trans a.symm)), if_pos ⟨b, a⟩]; rfl
    · rw [if_pos a, if_neg fun t => b ((q.1 t).trans a), if_neg fun t => b t.1]; rfl
  · rw [if_neg a, if_neg fun t => a t.2]

theorem loops_is (h : Joins e u v) (d : Fin 10000) :
    loops (endsRow 0 e) (endsRow 1 e) (ix1 (row d)) = Conv.loop u v two d := by
  rw [loops_at, selfs_at h]
  rfl

theorem norms_is (h : Joins e u v) (d : Fin 10000) :
    norms (endsRow 0 e) (endsRow 1 e) (ix1 (row d)) = Conv.norm u v two d := by
  have one : ∀ k : Fin 160000, forEdges 0x3F800000#32 (ix1 k) = 1 := fun k => by
    pointwise [forEdges]
  rw [norms_at, loops_is h, gathered_at h]
  simp only [one]
  rfl

theorem brought_at (h : Joins e u v) (z : FVec Ideal S10240x128 .f32) (d : Fin 10000) (f : Fin 128) :
    brought (endsRow 0 e) (endsRow 1 e) z (ix2 (row d) f) = ∑ k : Fin 160000, if v k = d then z (ix2 (row (u k)) f) else 0 := by
  have o : blank (ix2 (row d) f) = 0 := by
    pointwise [blank]
  unfold brought
  refine (row_added_at _ _ _ _ (row d) f).trans ((congrArg (· + _) o).trans ((zero_add _).trans (Finset.sum_congr rfl fun k _ => if_congr ?_ ?_ rfl)))
  · rw [edgeColumn_at _ v (fun k => h.to_ k) k, Fin.ext_iff]
    exact Nat.cast_inj
  · exact row_taken _ rfl rfl rfl rfl rfl _ _ k f (row (u k)) (edgeColumn_at _ u (fun k => h.from_ k) k) (by decide)

/-- The input's rows are the call's. -/
theorem padded_at (x : FVec Ideal S10000x128 .f32) (s : Fin 10000) (k : Fin 128) : padded x (ix2 (row s) k) = x (ix2 s k) := by
  unfold padded
  exact block_set_at _ _ _ _ rfl (row s) s rfl k

/-- A row that is put back at node `s`, or zeros. -/
theorem raised_at (h : Keeps p 5000 10000) (x : FVec Ideal S5120x128 .f32) (s : Fin 10000) (q : Fin 128) :
    raised p x (ix2 (row s) q) = placed (keptAt p) (fun i => x (ix2 (slot i) q)) s.val := by
  have w : ∀ i : Fin 5120, placeColumn p (ix2 i (0 : Fin 1)) = p (ix1 i) := fun i => by
    have t : placeColumn p (ix2 i (0 : Fin 1)) = Scalar.select (IntOp.cmpi .slt (p (ix1 i)) 0#32) (IntOp.addi (p (ix1 i)) 10240#32) (p (ix1 i)) := by
      pointwise [placeColumn]
    obtain ⟨b, hb⟩ := h.nat i
    rw [t, not_wrapped _ _ _ hb]
  have only : ∀ j : Fin 5120, (p (ix1 j)).toInt = s.val → ∃ i : Fin 5000, slot i = j ∧ keptAt p i = s.val := fun j hj => by
    by_cases k : j.val < 5000
    · exact ⟨⟨j.val, k⟩, rfl, hj⟩
    · have := h.fill j (by omega)
      omega
  unfold raised
  by_cases g : ∃ i, keptAt p i = s.val
  · obtain ⟨i, hi, hl⟩ := last_of _ _ g
    rw [placed_at _ i hi hl]
    refine row_set_at _ _ _ _ (row s) q (slot i) (by rw [w]; exact hi) fun j hj e => ?_
    rw [w] at e
    obtain ⟨i', rfl, e'⟩ := only j e
    exact hl i' (Fin.lt_def.2 (Fin.lt_def.1 hj)) e'
  · rw [placed_miss _ _ g]
    refine (row_set_miss _ _ _ _ (row s) q fun j hj => ?_).trans ?_
    · rw [w] at hj
      obtain ⟨i', e1, e2⟩ := only j hj
      exact g ⟨i', e2⟩
    · pointwise [blank]

end Cert.Kernel3Ideal.Degrees

end
-- ==== Proof.Network3.lean ====
/- The reference's first and last layers at an index, where the ends of the edges are nodes and no word of the selection counts from the end. -/
module

public import proofs.«01_k».proof.Proof.Gen.Reference3Ideal.Run
public import proofs.«01_k».proof.Proof.Network
public import proofs.«01_k».proof.Proof.Factor
public import proofs.«01_k».proof.Proof.Layers3

@[expose] public section

set_option maxRecDepth 16384

noncomputable section

namespace Cert.Reference3Ideal.Network

open Cert.Reference3Ideal Cert.Reference3Ideal.Gen Cert.Place
open Idealize.ShloMosaic Idealize.ShloMosaic.TcCoe Idealize.SL.Sem
open Cert.ReferenceIdeal.Network (counted counted_at Joins)
open Cert.KernelIdeal.Prefix (slot)
open Cert.Layers (two keptAt)

/-- Where the row is the column. -/
def diagonal : IVec S10000x10000 1 :=
  cmpi .eq (addi (iotaInDim S10000x10000 32 0) (broadcastInDim S10000x10000 ![] bcast_S_S10000x10000 (constantI S_ 32 0#32))) (iotaInDim S10000x10000 32 1)

/-- One number for every node. -/
def forNodes (b : BitVec 32) : FVec Ideal S10000 .f32 := broadcastInDim S10000 ![] bcast_S_S10000 (constant S_ .f32 b)

/-- The sums of a matrix's columns. -/
def columnSums (S : FVec Ideal S10000x10000 .f32) : FVec Ideal S10000 .f32 :=
  Host.reduceAdd S (constant S_ .f32 0x00000000#32) reducesTo_S10000x10000_S10000_d0 h_S_

/-- The weights of the loops the nodes are given. -/
def given (S : FVec Ideal S10000x10000 .f32) : FVec Ideal S10000 .f32 :=
  select (cmpf .une (columnSums (select diagonal S (broadcastInDim S10000x10000 ![] bcast_S_S10000x10000 (constant S_ .f32 0x00000000#32)))) (forNodes 0x00000000#32))
    (forNodes 0x00000000#32) (forNodes 0x40000000#32)

/-- The adjacency with those loops. -/
def looped (S : FVec Ideal S10000x10000 .f32) : FVec Ideal S10000x10000 .f32 :=
  addf S (select diagonal
    (broadcastInDim S10000x10000 ![0, 1] bcast_S10000x1_S10000x10000_0_1 (broadcastInDim S10000x1 ![0] bcast_S10000_S10000x1_0
      (pad S10000 ![0] ![0] ![0] (given S) (constant S_ .f32 0x00000000#32 : FVec Ideal S_ .f32) pads_S10000_S10000_000 h_S_)))
    (broadcastInDim S10000x10000 ![] bcast_S_S10000x10000 (constant S_ .f32 0x00000000#32)))

/-- The reciprocal roots of the degrees. -/
def roots (d : FVec Ideal S10000 .f32) : FVec Ideal S10000 .f32 :=
  select (cmpf .ogt d (forNodes 0x00000000#32)) (Host.divf (forNodes 0x3F800000#32) (Host.sqrt d)) (forNodes 0x00000000#32)

/-- An adjacency scaled on both sides. -/
def scaled (n : FVec Ideal S10000 .f32) (S : FVec Ideal S10000x10000 .f32) : FVec Ideal S10000x10000 .f32 :=
  mulf (mulf (broadcastInDim S10000x10000 ![0, 1] bcast_S10000x1_S10000x10000_0_1 (broadcastInDim S10000x1 ![0] bcast_S10000_S10000x1_0 n)) S)
    (broadcastInDim S10000x10000 ![0, 1] bcast_S1x10000_S10000x10000_0_1 (broadcastInDim S1x10000 ![1] bcast_S10000_S1x10000_1 n))

/-- The kept nodes, as index words. -/
def keptWords (p : IVec S5120 32) : IVec S5000x1 32 :=
  broadcastInDim S5000x1 ![0] bcast_S5000_S5000x1_0
    (select (cmpi .slt (extractStridedSlice S5000 ![0] p slices_S5120_S5000_0) (broadcastInDim S5000 ![] bcast_S_S5000 (constantI S_ 32 0#32)))
      (addi (extractStridedSlice S5000 ![0] p slices_S5120_S5000_0) (broadcastInDim S5000 ![] bcast_S_S5000 (constantI S_ 32 10000#32)))
      (extractStridedSlice S5000 ![0] p slices_S5120_S5000_0))

/-- The rows of the level below, put back at their nodes. -/
def raised (p : IVec S5120 32) (x : FVec Ideal S5120x128 .f32) : FVec Ideal S10000x128 .f32 :=
  Host.scatter scatter_S10000x128_S5000x1_S5000x128_1_0_0_1 (fun _ b => b)
    (broadcastInDim S10000x128 ![] bcast_S_S10000x128 (constant S_ .f32 0x00000000#32)) (keptWords p)
    (extractStridedSlice S5000x128 ![0, 0] x slices_S5120x128_S5000x128_0_0)

/-- Both layers' features. -/
def features (x : FVec Ideal S10000x128 .f32) (y : FVec Ideal S10000x128 .f32) : FVec Ideal S10000x256 .f32 :=
  concatenate S10000x256 1 [⟨S10000x128, x⟩, ⟨S10000x128, y⟩] concatenates_S10000x128_S10000x128_S10000x256_d1

/-- The input times the first weights. -/
def product0 (x : FVec Ideal S10000x128 .f32) (W : FVec Ideal S128x128 .f32) : FVec Ideal S10000x128 .f32 :=
  Host.dotGeneral dot_S10000x128_S128x128_S10000x128_1_0_0_1_n_n none x W

/-- The features times the last weights. -/
def product1 (x : FVec Ideal S10000x256 .f32) (W : FVec Ideal S256x128 .f32) : FVec Ideal S10000x128 .f32 :=
  Host.dotGeneral dot_S10000x256_S256x128_S10000x128_1_0_0_1_n_n none x W

/-- The convolution with a scaled adjacency. -/
def convolved (S : FVec Ideal S10000x10000 .f32) (z : FVec Ideal S10000x128 .f32) (b : FVec Ideal S128 .f32) : FVec Ideal S10000x128 .f32 :=
  addf (Host.dotGeneral dot_S10000x10000_S10000x128_S10000x128_1_0_0_1_n_n none (transpose S10000x10000 [1, 0] S transposes_S10000x10000_S10000x10000_1_0) z)
    (broadcastInDim S10000x128 ![0, 1] bcast_S1x128_S10000x128_0_1 (broadcastInDim S1x128 ![1] bcast_S128_S1x128_1 b))

/-- The same with the adjacency the edges make, loops added. -/
def graphConvolved (e : IVec S2x160000 32) (z : FVec Ideal S10000x128 .f32) (b : FVec Ideal S128 .f32) : FVec Ideal S10000x128 .f32 :=
  convolved (scaled (roots (columnSums (looped (counted e)))) (looped (counted e))) z b

/-- What is above zero. -/
def above (z : FVec Ideal S10000x128 .f32) : FVec Ideal S10000x128 .f32 :=
  maximumf z (broadcastInDim S10000x128 ![] bcast_S_S10000x128 (constant S_ .f32 0x00000000#32))

variable (m : (ℓ : Loc nD τ sig) → Buf (Elt Ideal) ℓ)

abbrev input (c : Dev nD) : FVec Ideal S10000x128 .f32 := m ((c : Thread nD τ).loc main_arg0)
abbrev below (c : Dev nD) : FVec Ideal S5120x128 .f32 := m ((c : Thread nD τ).loc main_arg1)
abbrev picks (c : Dev nD) : IVec S5120 32 := m ((c : Thread nD τ).loc main_arg2)
abbrev edges (c : Dev nD) : IVec S2x160000 32 := m ((c : Thread nD τ).loc main_arg3)
abbrev weight0 (c : Dev nD) : FVec Ideal S128x128 .f32 := m ((c : Thread nD τ).loc main_arg4)
abbrev shift0 (c : Dev nD) : FVec Ideal S128 .f32 := m ((c : Thread nD τ).loc main_arg5)
abbrev weight1 (c : Dev nD) : FVec Ideal S256x128 .f32 := m ((c : Thread nD τ).loc main_arg6)
abbrev shift1 (c : Dev nD) : FVec Ideal S128 .f32 := m ((c : Thread nD τ).loc main_arg7)

theorem out_is (c : Dev nD) : Value.res_out0 m c
    = graphConvolved (edges m c) (product1 (features (above (graphConvolved (edges m c) (product0 (input m c) (weight0 m c)) (shift0 m c)))
        (raised (picks m c) (below m c))) (weight1 m c)) (shift1 m c) := by
  unfold Value.res_out0 Value.res_main_v95
  rfl

/-- A choice by whether two row numbers are the same. -/
theorem chosen_where_same {α : Type} (r k : ℕ) (hr : r < 2 ^ 32) (hk : k < 2 ^ 32) (x y : α) :
    Scalar.select (IntOp.cmpi .eq (IntOp.addi (BitVec.ofNat 32 r) (BitVec.ofNat 32 0)) (BitVec.ofNat 32 k)) x y = if r = k then x else y := by
  have n : BitVec.ofNat 32 r = BitVec.ofNat 32 k ↔ r = k := by
    rw [← BitVec.toNat_inj, BitVec.toNat_ofNat, BitVec.toNat_ofNat, Nat.mod_eq_of_lt hr, Nat.mod_eq_of_lt hk]
  rw [WordCmp.addi_ofNat, add_zero, WordCmp.cmpi_eq_eq, WordCmp.ofBool_decide_eq_ite]
  by_cases q : r = k
  · rw [if_pos (n.2 q), if_pos q]; rfl
  · rw [if_neg fun t => q (n.1 t), if_neg q]; rfl

variable (S : FVec Ideal S10000x10000 .f32)

theorem columnSums_at (d : Fin 10000) : columnSums S (ix1 d) = ∑ s : Fin 10000, S (ix2 s d) := by
  pointwise [columnSums]

theorem given_at (d : Fin 10000) : given S (ix1 d) = if S (ix2 d d) ≠ 0 then 0 else Ideal.ofBits .f32 0x40000000#32 := by
  have t : columnSums (select diagonal S (broadcastInDim S10000x10000 ![] bcast_S_S10000x10000 (constant S_ .f32 0x00000000#32))) (ix1 d) = S (ix2 d d) := by
    rw [columnSums_at]
    have r : ∀ s : Fin 10000, (select diagonal S (broadcastInDim S10000x10000 ![] bcast_S_S10000x10000 (constant S_ .f32 0x00000000#32)) : FVec Ideal S10000x10000 .f32) (ix2 s d) = if s = d then S (ix2 s d) else 0 := fun s => by
      have hs := s.isLt
      have hd := d.isLt
      pointwise [diagonal]
      exact (chosen_where_same s.val d.val (by omega) (by omega) _ _).trans (if_congr Fin.ext_iff.symm rfl rfl)
    rw [Finset.sum_congr rfl fun s _ => r s, Finset.sum_ite_eq' Finset.univ d, if_pos (Finset.mem_univ d)]
  rw [← t]
  unfold given
  generalize columnSums (select diagonal S (broadcastInDim S10000x10000 ![] bcast_S_S10000x10000 (constant S_ .f32 0x00000000#32))) = y
  unfold forNodes
  pointwise

theorem looped_at (s d : Fin 10000) : looped S (ix2 s d) = S (ix2 s d) + if s = d then given S (ix1 s) else 0 := by
  have hs := s.isLt
  have hd := d.isLt
  unfold looped
  generalize given S = g
  pointwise [diagonal]
  exact congrArg (S (ix2 s d) + ·) ((chosen_where_same s.val d.val (by omega) (by omega) _ _).trans (if_congr Fin.ext_iff.symm rfl rfl))

theorem roots_at (n : FVec Ideal S10000 .f32) (d : Fin 10000) (h : 0 < n (ix1 d)) : roots n (ix1 d) = Ideal.rsqrt (n (ix1 d)) := by
  have t : roots n (ix1 d) = if 0 < n (ix1 d) then Ideal.div 1 (Ideal.sqrt (n (ix1 d))) else 0 := by
    unfold roots forNodes
    pointwise
  rw [t, if_pos h, (Conv.root_pos h).1]

theorem scaled_at (n : FVec Ideal S10000 .f32) (s d : Fin 10000) : scaled n S (ix2 s d) = n (ix1 s) * S (ix2 s d) * n (ix1 d) := by
  pointwise [scaled]

theorem convolved_at (z : FVec Ideal S10000x128 .f32) (b : FVec Ideal S128 .f32) (d : Fin 10000) (f : Fin 128) :
    convolved S z b (ix2 d f) = (∑ s : Fin 10000, S (ix2 s d) * z (ix2 s f)) + b (ix1 f) := by
  pointwise [convolved]

theorem product0_at (x : FVec Ideal S10000x128 .f32) (W : FVec Ideal S128x128 .f32) (s : Fin 10000) (f : Fin 128) :
    product0 x W (ix2 s f) = ∑ k : Fin 128, x (ix2 s k) * W (ix2 k f) := by
  pointwise [product0]

theorem product1_at (x : FVec Ideal S10000x256 .f32) (W : FVec Ideal S256x128 .f32) (s : Fin 10000) (f : Fin 128) :
    product1 x W (ix2 s f) = ∑ k : Fin 256, x (ix2 s k) * W (ix2 k f) := by
  pointwise [product1]

theorem above_at (z : FVec Ideal S10000x128 .f32) (s : Fin 10000) (f : Fin 128) : above z (ix2 s f) = max (z (ix2 s f)) 0 := by
  pointwise [above]

theorem features_at (x : FVec Ideal S10000x128 .f32) (y : FVec Ideal S10000x128 .f32) (s : Fin 10000) (k : Fin 256) :
    features x y (ix2 s k) = if h : k.val < 128 then x (ix2 s ⟨k.val, h⟩) else y (ix2 s ⟨k.val - 128, by omega⟩) := by
  pointwise [features]

/-- A row that is put back at node `s`, or zeros. -/
theorem raised_at {p : IVec S5120 32} (h : Keeps p 5000 10000) (x : FVec Ideal S5120x128 .f32) (s : Fin 10000) (q : Fin 128) :
    raised p x (ix2 s q) = placed (keptAt p) (fun i => x (ix2 (slot i) q)) s.val := by
  have w : ∀ i : Fin 5000, (keptWords p (ix2 i (0 : Fin 1))).toInt = keptAt p i := fun i => by
    have t : keptWords p (ix2 i (0 : Fin 1)) = Scalar.select (IntOp.cmpi .slt (p (ix1 (slot i))) 0#32) (IntOp.addi (p (ix1 (slot i))) 10000#32) (p (ix1 (slot i))) := by
      pointwise [keptWords]
    obtain ⟨b, hb⟩ := h.nat (slot i)
    rw [t, not_wrapped _ _ _ hb]
    rfl
  unfold raised
  by_cases g : ∃ i, keptAt p i = s.val
  · obtain ⟨i, hi, hl⟩ := last_of _ _ g
    rw [placed_at _ i hi hl]
    refine (row_set_at _ _ _ _ s q i ((w i).trans hi) fun j hj e => hl j hj ((w j).symm.trans e)).trans ?_
    pointwise
  · rw [placed_miss _ _ g]
    refine (row_set_miss _ _ _ _ s q fun j hj => g ⟨j, (w j).symm.trans hj⟩).trans ?_
    pointwise

variable {u v : Fin 160000 → Fin 10000}

/-- The convolution with the graph's adjacency at node `d`, feature `f`. -/
theorem graphConvolved_at {e : IVec S2x160000 32} (h : Joins e u v) (z : FVec Ideal S10000x128 .f32) (b : FVec Ideal S128 .f32) (d : Fin 10000) (f : Fin 128) :
    graphConvolved e z b (ix2 d f) = Conv.conv u v two (fun s => z (ix2 s f)) (b (ix1 f)) d := by
  have hc : ∀ s d : Fin 10000, counted e (ix2 s d) = Conv.count u v s d := fun s d => by
    rw [counted_at h]
    unfold Conv.count
    exact Finset.sum_congr rfl fun x _ => if_congr (by rw [Fin.ext_iff, Fin.ext_iff]) rfl rfl
  have hw : ∀ d : Fin 10000, given (counted e) (ix1 d) = Conv.loop u v two d := fun d => by
    rw [given_at, hc]
    unfold Conv.loop
    exact if_congr ((Conv.count_nonneg u v d d).lt_iff_ne'.symm) rfl rfl
  have hl : ∀ s d : Fin 10000, looped (counted e) (ix2 s d) = Conv.count u v s d + if s = d then Conv.loop u v two s else 0 := fun s d => by
    rw [looped_at, hc, hw]
  have hd : ∀ d : Fin 10000, columnSums (looped (counted e)) (ix1 d) = Conv.into v d + Conv.loop u v two d := fun d => by
    rw [columnSums_at, Finset.sum_congr rfl fun s _ => hl s d, Finset.sum_add_distrib, Conv.from_anywhere, Finset.sum_ite_eq' Finset.univ d,
      if_pos (Finset.mem_univ d)]
  have hn : ∀ d : Fin 10000, roots (columnSums (looped (counted e))) (ix1 d) = Conv.norm u v two d := fun d => by
    rw [roots_at _ _ (by rw [hd]; exact Conv.degree_pos u v Layers.two_pos d), hd]
    rfl
  refine (convolved_at _ _ _ d f).trans ?_
  simp only [scaled_at, hn, hl]
  rfl

/-- The result at node `d`, feature `f`. -/
theorem out_at (c : Dev nD) (h : Joins (edges m c) u v) (g : Keeps (picks m c) 5000 10000) (d : Fin 10000) (f : Fin 128) :
    (show FVec Ideal S10000x128 .f32 from Value.res_out0 m c) (ix2 d f)
      = Layers.last u v (input m c) (below m c) (picks m c) (weight0 m c) (shift0 m c) (weight1 m c) (shift1 m c) d f := by
  refine (congrFun (out_is m c) (ix2 d f)).trans ((graphConvolved_at h _ _ d f).trans ?_)
  simp only [product1_at, features_at, above_at, graphConvolved_at h, product0_at, raised_at g]
  rfl

end Cert.Reference3Ideal.Network

end
-- ==== Proof.Equation3.lean ====
/- The first and the last layer: the calls' result and the reference's are the same array. -/
module

public import proofs.«01_k».proof.Defs
public import proofs.«01_k».proof.Proof.Degrees3
public import proofs.«01_k».proof.Proof.Network3

@[expose] public section

set_option maxRecDepth 16384

noncomputable section

/-! ## What the precondition says -/

namespace Cert.Pre_layers_and_selection

open Idealize.ShloMosaic

theorem sides : Facts where
  slices_S5120_S5000_0 := by decide
  slices_S5120_S120_5000 := by decide
  bcast_S_S2x160000 := by decide
  bcast_S_S5000 := by decide
  bcast_S_S120 := by decide

variable [hL : Facts] {x : FVec Ideal S10000x128 .f32} {y : FVec Ideal S5120x128 .f32} {p : IVec S5120 32} {e : IVec S2x160000 32}
  {w0 : FVec Ideal S128x128 .f32} {b0 : FVec Ideal S128 .f32} {w1 : FVec Ideal S256x128 .f32} {b1 : FVec Ideal S128 .f32}

/-- The ends of the edges are nodes. -/
theorem ends_bound (h : (fn (F := Ideal) x y p e w0 b0 w1 b1).1 = fun _ => 1#1) (r : Fin 2) (k : Fin 160000) :
    0 ≤ (e (ix2 r k)).toInt ∧ (e (ix2 r k)).toInt < 10000 := by
  have t := congrFun h (ix2 r k)
  refine Place.within (e (ix2 r k)) 0#32 10000#32 (Eq.trans ?_ t)
  unfold fn
  pointwise

/-- None of the kept words is negative. -/
theorem kept_bound (h : (fn (F := Ideal) x y p e w0 b0 w1 b1).2.1 = fun _ => 1#1) (i : Fin 5120) (hi : i.val < 5000) : 0 ≤ (p (ix1 i)).toInt := by
  have t := congrFun h (ix1 (⟨i.val, hi⟩ : Fin 5000))
  have s : (fn (F := Ideal) x y p e w0 b0 w1 b1).2.1 (ix1 (⟨i.val, hi⟩ : Fin 5000)) = IntOp.cmpi .sge (p (ix1 i)) 0#32 := by
    unfold fn
    pointwise
  rw [s, WordCmp.cmpi_sge_eq, WordCmp.ofBool_decide_eq_one_iff] at t
  exact t

/-- The words after them name none of the nodes. -/
theorem fill_bound (h : (fn (F := Ideal) x y p e w0 b0 w1 b1).2.2 = fun _ => 1#1) (i : Fin 5120) (hi : 5000 ≤ i.val) : 10000 ≤ (p (ix1 i)).toInt := by
  have t := congrFun h (ix1 (⟨i.val - 5000, by omega⟩ : Fin 120))
  have s : (fn (F := Ideal) x y p e w0 b0 w1 b1).2.2 (ix1 (⟨i.val - 5000, by omega⟩ : Fin 120))
      = IntOp.cmpi .sge (p (ix1 (⟨5000 + (i.val - 5000), by omega⟩ : Fin 5120))) 10000#32 := by
    unfold fn
    pointwise
  have k : (⟨5000 + (i.val - 5000), by omega⟩ : Fin 5120) = i := Fin.ext (show 5000 + (i.val - 5000) = i.val by omega)
  rw [s, k, WordCmp.cmpi_sge_eq, WordCmp.ofBool_decide_eq_one_iff] at t
  exact t

/-- The edges join nodes, and the selection can be put back. -/
theorem read (h0 : (fn (F := Ideal) x y p e w0 b0 w1 b1).1 = fun _ => 1#1) (h1 : (fn (F := Ideal) x y p e w0 b0 w1 b1).2.1 = fun _ => 1#1)
    (h2 : (fn (F := Ideal) x y p e w0 b0 w1 b1).2.2 = fun _ => 1#1) : (∃ u v, ReferenceIdeal.Network.Joins e u v) ∧ Place.Keeps p 5000 10000 := by
  have be := fun r k => ends_bound h0 r k
  refine ⟨⟨fun k => ⟨(e (ix2 (0 : Fin 2) k)).toInt.toNat, by have := be 0 k; omega⟩, fun k => ⟨(e (ix2 (1 : Fin 2) k)).toInt.toNat, by have := be 1 k; omega⟩,
    fun k => ?_, fun k => ?_⟩, fun j q => kept_bound h1 j q, fun j q => fill_bound h2 j q⟩
  · exact (Int.toNat_of_nonneg (be 0 k).1).symm
  · exact (Int.toNat_of_nonneg (be 1 k).1).symm

end Cert.Pre_layers_and_selection

/-! ## The run -/

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- From any memory, the program ends with the last lines' array in its result and its arguments as they were. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v92) = W13 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c => ⟨h c _ (mem_uc main_v92 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c)⟩)

end Cert.Kernel3Ideal.Gen

/-! ## The calls -/

namespace Cert.Kernel3Ideal.Degrees

open Cert.Kernel3Ideal Cert.Kernel3Ideal.Gen Cert.Kernel3Ideal.Prefix Cert.Place
open Idealize.ShloMosaic Idealize.ShloMosaic.TcCoe Idealize.SL.Sem
open Cert.ReferenceIdeal.Network (Joins)
open Cert.KernelIdeal.Prefix (slot)
open Cert.Layers (two keptAt)

variable {u v : Fin 160000 → Fin 10000}

/-- A layer, from what its call leaves: the rows scaled by their norms, and each node's own term. -/
theorem layer {e : IVec S2x160000 32} (h : Joins e u v) (z o : FVec Ideal S10240x128 .f32) (X : Fin 128 → Fin 10000 → EReal) (b : FVec Ideal S128 .f32)
    (hz : ∀ s f, z (ix2 (row s) f) = Conv.norm u v two s * X f s)
    (ho : ∀ s f, o (ix2 (row s) f) = Conv.loop u v two s * Conv.norm u v two s * (Conv.norm u v two s * X f s) + b (ix1 f)) (d : Fin 10000) (f : Fin 128) :
    Conv.norm u v two d * brought (endsRow 0 e) (endsRow 1 e) z (ix2 (row d) f) + o (ix2 (row d) f) = Conv.conv u v two (X f) (b (ix1 f)) d := by
  rw [brought_at h, ho, Finset.sum_congr rfl fun k _ => if_congr Iff.rfl (hz (u k) f) rfl]
  exact Conv.layer u v Layers.two_pos (X f) _ d

variable (m : (ℓ : Loc nD τ sig) → Buf (Elt Ideal) ℓ) (ρ : Dev nD → PrngReg)

/-! ### The first call -/

theorem norms0 (c : Dev nD) (h : Joins (edges m c) u v) (s : Fin 10000) : First.norms (V7 m ρ) c (ix2 (row s) (0 : Fin 1)) = Conv.norm u v two s :=
  (norms_column0 (W6 m ρ c) (row s)).trans (((congrFun (W7_of m ρ c main_v32 (by decide)) (ix1 (row s))).symm.trans (Prefix.norms_is m ρ c (row s))).trans
    (Degrees.norms_is h s))

theorem loops0 (c : Dev nD) (h : Joins (edges m c) u v) (s : Fin 10000) : First.loops (V7 m ρ) c (ix2 (row s) (0 : Fin 1)) = Conv.loop u v two s :=
  (loops_column0 (W6 m ρ c) (row s)).trans (((congrFun (W7_of m ρ c main_v35 (by decide)) (ix1 (row s))).symm.trans (Prefix.loops_is m ρ c (row s))).trans
    (Degrees.loops_is h s))

theorem bias0 (c : Dev nD) (f : Fin 128) : First.bias (V7 m ρ) c (ix2 (0 : Fin 1) f) = shift0 m c (ix1 f) :=
  (shift_row0 (W6 m ρ c) f).trans (congrFun (W6_args m ρ c main_arg5 (by decide)) (ix1 f))

theorem weights0 (c : Dev nD) : First.weights (V7 m ρ) c = weight0 m c := W7_args m ρ c main_arg4 (by decide)

theorem scaled0 (c : Dev nD) (h : Joins (edges m c) u v) (s : Fin 10000) (f : Fin 128) :
    First.scaled (V7 m ρ) c (ix2 (row s) f) = Conv.norm u v two s * Layers.mixed0 (input m c) (weight0 m c) f s := by
  have e : First.scaled (V7 m ρ) c (ix2 (row s) f)
      = First.norms (V7 m ρ) c (ix2 (row s) (0 : Fin 1)) * ∑ k : Fin 128, First.feats (V7 m ρ) c (ix2 (row s) k) * First.weights (V7 m ρ) c (ix2 k f) := rfl
  rw [e, norms0 m ρ c h, weights0]
  refine congrArg (Conv.norm u v two s * ·) (Finset.sum_congr rfl fun k _ => ?_)
  rw [input_is, padded_at]

theorem own0 (c : Dev nD) (h : Joins (edges m c) u v) (s : Fin 10000) (f : Fin 128) :
    First.own (V7 m ρ) c (ix2 (row s) f) = Conv.loop u v two s * Conv.norm u v two s
      * (Conv.norm u v two s * Layers.mixed0 (input m c) (weight0 m c) f s) + shift0 m c (ix1 f) := by
  have e : First.own (V7 m ρ) c (ix2 (row s) f)
      = First.loops (V7 m ρ) c (ix2 (row s) (0 : Fin 1)) * First.norms (V7 m ρ) c (ix2 (row s) (0 : Fin 1)) * First.scaled (V7 m ρ) c (ix2 (row s) f)
        + First.bias (V7 m ρ) c (ix2 (0 : Fin 1) f) := rfl
  rw [e, scaled0 m ρ c h, norms0 m ρ c h, loops0 m ρ c h, bias0]

/-! ### Between the calls -/

/-- What neither a call nor the lines between them write is as before. -/
theorem across (c : Dev nD) (b : Ref sig .tc) (h0 : ∀ w, Pipeline.arrRef spec0 w ≠ b) (h1 : b ∉ hostOps1_W) (h2 : b ∉ hostOps1_1_W) :
    W10 m ρ c (Proc.devRef .tc b) = W7 m ρ c (Proc.devRef .tc b) :=
  (W10_of m ρ c b h2).trans ((W9_of m ρ c b h1).trans (W8_of_ne m ρ c b h0))

theorem through (c : Dev nD) (b : Ref sig .tc) (h0 : ∀ w, Pipeline.arrRef spec0 w ≠ b) (h1 : b ∉ hostOps1_W) (h2 : b ∉ hostOps1_1_W)
    (h3 : b ∉ hostOps1_2_W) (h4 : ∀ w, Pipeline.arrRef spec1 w ≠ b) : W12 m ρ c (Proc.devRef .tc b) = W7 m ρ c (Proc.devRef .tc b) :=
  (W12_of_ne m ρ c b h4).trans ((W11_of m ρ c b h3).trans (across m ρ c b h0 h1 h2))

theorem hidden_at (c : Dev nD) (h : Joins (edges m c) u v) (s : Fin 10000) (f : Fin 128) :
    (show FVec Ideal S10240x128 .f32 from W10 m ρ c (Proc.devRef .tc main_v59)) (ix2 (row s) f)
      = Layers.hidden u v (input m c) (weight0 m c) (shift0 m c) s f := by
  refine (hidden_is (W8 m ρ c) (row s) f).trans (congrArg (max · 0) ?_)
  rw [W8_of_ne m ρ c main_v32 (by decide), W8_of_ne m ρ c main_v1 (by decide), W8_of_ne m ρ c main_v3 (by decide), sources_is, targets_is,
    Prefix.norms_is, Degrees.norms_is h]
  exact layer h _ _ (Layers.mixed0 (input m c) (weight0 m c)) (shift0 m c)
    (fun s f => (congrFun ((W8_arr m ρ c 5).trans (First.scaled_is (V7 m ρ) c)) (ix2 (row s) f)).trans (scaled0 m ρ c h s f))
    (fun s f => (congrFun ((W8_arr m ρ c 6).trans (First.own_is (V7 m ρ) c)) (ix2 (row s) f)).trans (own0 m ρ c h s f)) s f

/-! ### The last call -/

theorem norms1 (c : Dev nD) (h : Joins (edges m c) u v) (s : Fin 10000) : Last.norms (V11 m ρ) c (ix2 (row s) (0 : Fin 1)) = Conv.norm u v two s :=
  (norms_column1 (W10 m ρ c) (row s)).trans (((congrFun (across m ρ c main_v32 (by decide) (by decide) (by decide)) (ix1 (row s))).trans
    (Prefix.norms_is m ρ c (row s))).trans (Degrees.norms_is h s))

theorem loops1 (c : Dev nD) (h : Joins (edges m c) u v) (s : Fin 10000) : Last.loops (V11 m ρ) c (ix2 (row s) (0 : Fin 1)) = Conv.loop u v two s :=
  (loops_column1 (W10 m ρ c) (row s)).trans (((congrFun (across m ρ c main_v35 (by decide) (by decide) (by decide)) (ix1 (row s))).trans
    (Prefix.loops_is m ρ c (row s))).trans (Degrees.loops_is h s))

theorem bias1 (c : Dev nD) (f : Fin 128) : Last.bias (V11 m ρ) c (ix2 (0 : Fin 1) f) = shift1 m c (ix1 f) :=
  (shift_row1 (W10 m ρ c) f).trans (congrFun (W10_args m ρ c main_arg7 (by decide)) (ix1 f))

theorem weights1 (c : Dev nD) : Last.weights (V11 m ρ) c = weight1 m c := W11_args m ρ c main_arg6 (by decide)

theorem features1 (c : Dev nD) (h : Joins (edges m c) u v) (g : Keeps (picks m c) 5000 10000) (s : Fin 10000) (k : Fin 256) :
    Last.feats (V11 m ρ) c (ix2 (row s) k) = Layers.feature u v (input m c) (below m c) (picks m c) (weight0 m c) (shift0 m c) s k := by
  refine (feats_is (W10 m ρ c) (row s) k).trans ?_
  unfold Layers.feature
  by_cases q : k.val < 128
  · rw [dif_pos q, dif_pos q]
    exact hidden_at m ρ c h s _
  · rw [dif_neg q, dif_neg q, W10_args m ρ c main_arg1 (by decide), W10_args m ρ c main_arg2 (by decide)]
    exact raised_at g (below m c) s _

theorem scaled1 (c : Dev nD) (h : Joins (edges m c) u v) (g : Keeps (picks m c) 5000 10000) (s : Fin 10000) (f : Fin 128) :
    Last.scaled (V11 m ρ) c (ix2 (row s) f) = Conv.norm u v two s
      * Layers.mixed1 u v (input m c) (below m c) (picks m c) (weight0 m c) (shift0 m c) (weight1 m c) f s := by
  have e : Last.scaled (V11 m ρ) c (ix2 (row s) f)
      = Last.norms (V11 m ρ) c (ix2 (row s) (0 : Fin 1)) * ∑ k : Fin 256, Last.feats (V11 m ρ) c (ix2 (row s) k) * Last.weights (V11 m ρ) c (ix2 k f) := rfl
  rw [e, norms1 m ρ c h, weights1]
  refine congrArg (Conv.norm u v two s * ·) (Finset.sum_congr rfl fun k _ => ?_)
  rw [features1 m ρ c h g]

theorem own1 (c : Dev nD) (h : Joins (edges m c) u v) (g : Keeps (picks m c) 5000 10000) (s : Fin 10000) (f : Fin 128) :
    Last.own (V11 m ρ) c (ix2 (row s) f) = Conv.loop u v two s * Conv.norm u v two s * (Conv.norm u v two s
      * Layers.mixed1 u v (input m c) (below m c) (picks m c) (weight0 m c) (shift0 m c) (weight1 m c) f s) + shift1 m c (ix1 f) := by
  have e : Last.own (V11 m ρ) c (ix2 (row s) f)
      = Last.loops (V11 m ρ) c (ix2 (row s) (0 : Fin 1)) * Last.norms (V11 m ρ) c (ix2 (row s) (0 : Fin 1)) * Last.scaled (V11 m ρ) c (ix2 (row s) f)
        + Last.bias (V11 m ρ) c (ix2 (0 : Fin 1) f) := rfl
  rw [e, scaled1 m ρ c h g, norms1 m ρ c h, loops1 m ρ c h, bias1]

/-- What the program leaves in the result. -/
abbrev result (c : Dev nD) : Buf (Elt Ideal) ((c.tc : Thread nD τ).loc main_v92) := W13 m ρ c (Proc.devRef .tc main_v92)

/-- The result at node `d`, feature `f`. -/
theorem result_at (c : Dev nD) (h : Joins (edges m c) u v) (g : Keeps (picks m c) 5000 10000) (d : Fin 10000) (f : Fin 128) :
    (show FVec Ideal S10000x128 .f32 from result m ρ c) (ix2 d f)
      = Layers.last u v (input m c) (below m c) (picks m c) (weight0 m c) (shift0 m c) (weight1 m c) (shift1 m c) d f := by
  refine (closing_is (W12 m ρ c) d f).trans ?_
  rw [through m ρ c main_v32 (by decide) (by decide) (by decide) (by decide) (by decide),
    through m ρ c main_v1 (by decide) (by decide) (by decide) (by decide) (by decide),
    through m ρ c main_v3 (by decide) (by decide) (by decide) (by decide) (by decide), sources_is, targets_is, Prefix.norms_is, Degrees.norms_is h]
  exact layer h _ _ (Layers.mixed1 u v (input m c) (below m c) (picks m c) (weight0 m c) (shift0 m c) (weight1 m c)) (shift1 m c)
    (fun s f => (congrFun ((W12_arr m ρ c 5).trans (Last.scaled_is (V11 m ρ) c)) (ix2 (row s) f)).trans (scaled1 m ρ c h g s f))
    (fun s f => (congrFun ((W12_arr m ρ c 6).trans (Last.own_is (V11 m ρ) c)) (ix2 (row s) f)).trans (own1 m ρ c h g s f)) d f

end Cert.Kernel3Ideal.Degrees

/-! ## The equation -/

namespace Cert.Equation3

open Idealize.ShloMosaic Idealize.ShloMosaic.TcCoe Idealize.SL.Sem
open Cert.ReferenceIdeal.Network (Joins)
open Cert.Place (Keeps)

variable (m : (ℓ : Loc Kernel3Ideal.nD Kernel3Ideal.τ Kernel3Ideal.sig) → Buf (Elt Ideal) ℓ) (ρ : Dev Kernel3Ideal.nD → PrngReg) (c : Dev Kernel3Ideal.nD)
  (m' : (ℓ : Loc Reference3Ideal.nD Reference3Ideal.τ Reference3Ideal.sig) → Buf (Elt Ideal) ℓ) (c' : Dev Reference3Ideal.nD)
variable {u v : Fin 160000 → Fin 10000}

/-- Given the same arguments, the reference's result is the calls'. -/
theorem result_is (h0 : Reference3Ideal.Network.input m' c' = Kernel3Ideal.Prefix.input m c) (h1 : Reference3Ideal.Network.below m' c' = Kernel3Ideal.Prefix.below m c)
    (h2 : Reference3Ideal.Network.picks m' c' = Kernel3Ideal.Prefix.picks m c) (h3 : Reference3Ideal.Network.edges m' c' = Kernel3Ideal.Prefix.edges m c)
    (h4 : Reference3Ideal.Network.weight0 m' c' = Kernel3Ideal.Prefix.weight0 m c) (h5 : Reference3Ideal.Network.shift0 m' c' = Kernel3Ideal.Prefix.shift0 m c)
    (h6 : Reference3Ideal.Network.weight1 m' c' = Kernel3Ideal.Prefix.weight1 m c) (h7 : Reference3Ideal.Network.shift1 m' c' = Kernel3Ideal.Prefix.shift1 m c)
    (h : Joins (Kernel3Ideal.Prefix.edges m c) u v) (g : Keeps (Kernel3Ideal.Prefix.picks m c) 5000 10000) :
    (show FVec Ideal Kernel3Ideal.S10000x128 .f32 from Reference3Ideal.Value.res_out0 m' c') = Kernel3Ideal.Degrees.result m ρ c := by
  refine funext fun j => ?_
  obtain ⟨d, f, rfl⟩ : ∃ (d : Fin 10000) (f : Fin 128), j = ix2 d f := ⟨j 0, j 1, eq_ix2 j⟩
  refine (Reference3Ideal.Network.out_at m' c' (h3 ▸ h) (h2 ▸ g) d f).trans (Eq.trans ?_ (Kernel3Ideal.Degrees.result_at m ρ c h g d f).symm)
  rw [h0, h1, h2, h4, h5, h6, h7]

end Cert.Equation3

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Equation
public import proofs.«01_k».proof.Proof.Equation2
public import proofs.«01_k».proof.Proof.Equation3
public import Idealize.ShloMosaic.Adequacy
public import Idealize.ShloMosaic.Init

@[expose] public section

noncomputable section

namespace Cert.Proof

open Idealize.ShloMosaic Idealize.SL.Sem Cert.Kernel

/-- The call run on the chip's own floats. -/
theorem frame_kernel : Cert.quiescent_Kernel (hKernel := Cert.Kernel.Gen.facts) := fun m ρ _ => Cert.Kernel.Gen.frame m ρ

/-- The call run on extended reals. -/
theorem frame_ideal : Cert.quiescent_KernelIdeal (hKernelIdeal := Cert.KernelIdeal.Gen.facts) := fun m ρ _ => Cert.KernelIdeal.Gen.frame m ρ

/-- The reference run on extended reals. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Where the edges join nodes and the selection is one, the call and the reference give the same three arrays. -/
theorem equal : Cert.algebraic_KernelIdeal_ReferenceIdeal_pre_nodes_and_selection (hKernelIdeal := Cert.KernelIdeal.Gen.facts)
    (hReferenceIdeal := Cert.ReferenceIdeal.Gen.facts) (hPre_nodes_and_selection := Cert.Pre_nodes_and_selection.sides) := by
  intro m ρ m' ρ' hpre hagree
  refine ⟨fun c => Cert.KernelIdeal.Value.G2 m c, fun c => Cert.KernelIdeal.Value.G3 m c, fun c => Cert.KernelIdeal.Value.G4 m c,
    Cert.KernelIdeal.Value.run m ρ, ?_⟩
  refine (θ_run Cert.ReferenceIdeal.defs _ _).mono (fun _ h c => ?_) (Cert.ReferenceIdeal.Value.run (F := Ideal) m' ρ')
  obtain ⟨r0, r1, r2, rest⟩ := h c
  obtain ⟨p0, p1, p2, p3⟩ := hpre c
  obtain ⟨u, v, sel, hj, hs⟩ := Cert.Equation.read (hP := Cert.Pre_nodes_and_selection.sides) _ _ p0 p1 p2 p3
  refine ⟨r0.trans ?_, r1.trans ?_, r2.trans ?_, rest⟩
  · exact Cert.Equation.first_is m c m' c (hagree c).1 (hagree c).2 hj hs
  · exact Cert.Equation.second_is m c m' c (hagree c).1 (hagree c).2 hj hs
  · exact Cert.Equation.third_is m c m' c (hagree c).1 (hagree c).2 hj hs

/-- The second level's call run on the chip's own floats. -/
theorem frame_kernel2 : Cert.quiescent_Kernel2 (hKernel2 := Cert.Kernel2.Gen.facts) := fun m ρ _ => Cert.Kernel2.Gen.frame m ρ

/-- The second level's call run on extended reals. -/
theorem frame_ideal2 : Cert.quiescent_Kernel2Ideal (hKernel2Ideal := Cert.Kernel2Ideal.Gen.facts) := fun m ρ _ => Cert.Kernel2Ideal.Gen.frame m ρ

/-- The second level's reference run on extended reals. -/
theorem frame_reference2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Where the adjacency's diagonal is zero and the selection is one, the second level's call and reference give the same three arrays. -/
theorem equal2 : Cert.algebraic_Kernel2Ideal_Reference2Ideal_pre_adjacency_and_selection (hKernel2Ideal := Cert.Kernel2Ideal.Gen.facts)
    (hReference2Ideal := Cert.Reference2Ideal.Gen.facts) (hPre_adjacency_and_selection := Cert.Pre_adjacency_and_selection.sides) := by
  intro m ρ m' ρ' hpre hagree
  refine ⟨fun c => Cert.Kernel2Ideal.Value.G2 m c, fun c => Cert.Kernel2Ideal.Value.G3 m c, fun c => Cert.Kernel2Ideal.Value.G4 m c,
    Cert.Kernel2Ideal.Value.run m ρ, ?_⟩
  refine (θ_run Cert.Reference2Ideal.defs _ _).mono (fun _ h c => ?_) (Cert.Reference2Ideal.Network.results m' ρ')
  obtain ⟨r0, r1, r2, rest⟩ := h c
  obtain ⟨p0, p1, p2, p3⟩ := hpre c
  have hs := fun r => Cert.Pre_adjacency_and_selection.diagonal (hP := Cert.Pre_adjacency_and_selection.sides) p0 r
  obtain ⟨sel, hp⟩ := Cert.Pre_adjacency_and_selection.read (hP := Cert.Pre_adjacency_and_selection.sides) p1 p2 p3
  have e : Cert.Reference2Ideal.Network.adjacency m' c = Cert.Kernel2Ideal.Prefix.adjacency m c := (hagree c).1
  have q : Cert.Reference2Ideal.Network.picks m' c = Cert.Kernel2Ideal.Prefix.picks m c := (hagree c).2
  rw [e, q] at r0 r1 r2
  exact ⟨r0.trans (Cert.Equation2.first_is m c hs hp), r1.trans (Cert.Equation2.second_is m c hs hp), r2.trans (Cert.Equation2.third_is m c hs hp), rest⟩

/-- The two convolutions' calls run on the chip's own floats. -/
theorem frame_kernel3 : Cert.quiescent_Kernel3 (hKernel3 := Cert.Kernel3.Gen.facts) := fun m ρ _ => Cert.Kernel3.Gen.frame m ρ

/-- The two convolutions' calls run on extended reals. -/
theorem frame_ideal3 : Cert.quiescent_Kernel3Ideal (hKernel3Ideal := Cert.Kernel3Ideal.Gen.facts) := fun m ρ _ => Cert.Kernel3Ideal.Gen.frame m ρ

/-- The convolutions' reference run on extended reals. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Where the edges join nodes and the selection can be put back, the convolutions' calls and their reference give the same array, and both leave the edges as they are. -/
theorem equal3 : Cert.algebraic_Kernel3Ideal_Reference3Ideal_pre_layers_and_selection (hKernel3Ideal := Cert.Kernel3Ideal.Gen.facts)
    (hReference3Ideal := Cert.Reference3Ideal.Gen.facts) (hPre_layers_and_selection := Cert.Pre_layers_and_selection.sides) := by
  intro m ρ m' ρ' hpre hagree
  refine ⟨fun c => Cert.Kernel3Ideal.Degrees.result m ρ c, fun c => m (c.tc.loc Cert.Kernel3Ideal.main_arg3),
    (θ_run Cert.Kernel3Ideal.defs _ _).mono (fun _ h c => ⟨(h c).1, (h c).2.2.2.2.1, (h c).2⟩) (Cert.Kernel3Ideal.Gen.run_values m ρ), ?_⟩
  refine (θ_run Cert.Reference3Ideal.defs _ _).mono (fun _ h c => ?_) (Cert.Reference3Ideal.Value.run (F := Ideal) m' ρ')
  obtain ⟨r0, rest⟩ := h c
  obtain ⟨p0, p1, p2⟩ := hpre c
  obtain ⟨a0, a1, a2, a3, a4, a5, a6, a7⟩ := hagree c
  obtain ⟨⟨u, v, hj⟩, hs⟩ := Cert.Pre_layers_and_selection.read (hL := Cert.Pre_layers_and_selection.sides) p0 p1 p2
  exact ⟨r0.trans (Cert.Equation3.result_is m ρ c m' c a0 a1 a2 a3 a4 a5 a6 a7 hj hs), rest.1.trans a3, rest.2⟩

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_nodes_and_selection.sides, Cert.Pre_adjacency_and_selection.sides, Cert.Pre_layers_and_selection.sides,
    frame_kernel, frame_ideal, fun m ρ _ => frame_ideal m ρ trivial, frame_reference, fun m ρ _ => frame_reference m ρ trivial,
    frame_kernel2, frame_ideal2, fun m ρ _ => frame_ideal2 m ρ trivial, frame_reference2, fun m ρ _ => frame_reference2 m ρ trivial,
    frame_kernel3, frame_ideal3, fun m ρ _ => frame_ideal3 m ρ trivial, frame_reference3, fun m ρ _ => frame_reference3 m ρ trivial,
    trivial, equal, trivial, equal2, trivial, equal3⟩

end Cert.Proof

end
